-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S16384 : Shape := ⟨1, ![16384]⟩
abbrev S1536 : Shape := ⟨1, ![1536]⟩
abbrev S128x1536 : Shape := ⟨2, ![128, 1536]⟩
abbrev S128 : Shape := ⟨1, ![128]⟩
abbrev S100000x128 : Shape := ⟨2, ![100000, 128]⟩
abbrev S10x256 : Shape := ⟨2, ![10, 256]⟩
abbrev S10 : Shape := ⟨1, ![10]⟩
abbrev S10x10 : Shape := ⟨2, ![10, 10]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : IVec S16384 32) (main_arg1 : FVec F S1536 .f32) (main_arg2 : FVec F S128x1536 .f32) (main_arg3 : FVec F S128 .f32) (main_arg4 : FVec F S100000x128 .f32) (main_arg5 : FVec F S10x256 .f32) (main_arg6 : FVec F S10 .f32) (main_arg7 : FVec F S10x10 .f32) (main_arg8 : FVec F S10 .f32) : IVec S_ 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 32 := constantI S_ 32 100000#32
  let main_v2 : IVec S16384 32 := broadcastInDim S16384 ![] bcast_S_S16384 main_c_0
  let main_v3 : IVec S16384 1 := cmpi .slt main_arg0 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  main_v5
-- ==== Kernel.lean ====
abbrev S16384 : Shape := ⟨1, ![16384]⟩
abbrev S1536 : Shape := ⟨1, ![1536]⟩
abbrev S128x1536 : Shape := ⟨2, ![128, 1536]⟩
abbrev S128 : Shape := ⟨1, ![128]⟩
abbrev S100000x128 : Shape := ⟨2, ![100000, 128]⟩
abbrev S10x256 : Shape := ⟨2, ![10, 256]⟩
abbrev S10 : Shape := ⟨1, ![10]⟩
abbrev S10x10 : Shape := ⟨2, ![10, 10]⟩
abbrev S1x1536 : Shape := ⟨2, ![1, 1536]⟩
abbrev S1536x128 : Shape := ⟨2, ![1536, 128]⟩
abbrev S1x128 : Shape := ⟨2, ![1, 128]⟩
abbrev S10x128 : Shape := ⟨2, ![10, 128]⟩
abbrev S128x10 : Shape := ⟨2, ![128, 10]⟩
abbrev S_ : Shape := ⟨0, ![]⟩
abbrev S128x16 : Shape := ⟨2, ![128, 16]⟩
abbrev S1x10 : Shape := ⟨2, ![1, 10]⟩
abbrev S1x16 : Shape := ⟨2, ![1, 16]⟩
abbrev S16x16 : Shape := ⟨2, ![16, 16]⟩
abbrev S16x1 : Shape := ⟨2, ![16, 1]⟩
abbrev S10x16 : Shape := ⟨2, ![10, 16]⟩
abbrev S16 : Shape := ⟨1, ![16]⟩
abbrev S16384x16 : Shape := ⟨2, ![16384, 16]⟩
abbrev S512 : Shape := ⟨1, ![512]⟩
abbrev S512x128 : Shape := ⟨2, ![512, 128]⟩
abbrev S512x16 : Shape := ⟨2, ![512, 16]⟩
abbrev S1 : Shape := ⟨1, ![1]⟩
abbrev S16384x10 : Shape := ⟨2, ![16384, 10]⟩

abbrev nBuf : Table → Nat
  | .hbm => 32
  | .local .tc .vmem => 6
  | .local .scVector .vmem => 7
  | _ => 0

abbrev bufTy : (tb : Table) → Fin (nBuf tb) → BufTy
  | .hbm, ⟨0, _⟩ => ⟨S16384, .i32⟩
  | .hbm, ⟨1, _⟩ => ⟨S1536, .f32⟩
  | .hbm, ⟨2, _⟩ => ⟨S128x1536, .f32⟩
  | .hbm, ⟨3, _⟩ => ⟨S128, .f32⟩
  | .hbm, ⟨4, _⟩ => ⟨S100000x128, .f32⟩
  | .hbm, ⟨5, _⟩ => ⟨S10x256, .f32⟩
  | .hbm, ⟨6, _⟩ => ⟨S10, .f32⟩
  | .hbm, ⟨7, _⟩ => ⟨S10x10, .f32⟩
  | .hbm, ⟨8, _⟩ => ⟨S10, .f32⟩
  | .hbm, ⟨9, _⟩ => ⟨S1x1536, .f32⟩
  | .hbm, ⟨10, _⟩ => ⟨S1536x128, .f32⟩
  | .hbm, ⟨11, _⟩ => ⟨S1x128, .f32⟩
  | .hbm, ⟨12, _⟩ => ⟨S10x128, .f32⟩
  | .hbm, ⟨13, _⟩ => ⟨S128x10, .f32⟩
  | .hbm, ⟨14, _⟩ => ⟨S_, .i32⟩
  | .hbm, ⟨15, _⟩ => ⟨S_, .f32⟩
  | .hbm, ⟨16, _⟩ => ⟨S128x16, .f32⟩
  | .hbm, ⟨17, _⟩ => ⟨S1x10, .f32⟩
  | .hbm, ⟨18, _⟩ => ⟨S_, .i32⟩
  | .hbm, ⟨19, _⟩ => ⟨S_, .f32⟩
  | .hbm, ⟨20, _⟩ => ⟨S1x16, .f32⟩
  | .hbm, ⟨21, _⟩ => ⟨S16x16, .f32⟩
  | .hbm, ⟨22, _⟩ => ⟨S10x10, .f32⟩
  | .hbm, ⟨23, _⟩ => ⟨S_, .i32⟩
  | .hbm, ⟨24, _⟩ => ⟨S_, .f32⟩
  | .hbm, ⟨25, _⟩ => ⟨S10x16, .f32⟩
  | .hbm, ⟨26, _⟩ => ⟨S_, .i32⟩
  | .hbm, ⟨27, _⟩ => ⟨S_, .f32⟩
  | .hbm, ⟨28, _⟩ => ⟨S16, .f32⟩
  | .hbm, ⟨29, _⟩ => ⟨S10x128, .f32⟩
  | .hbm, ⟨30, _⟩ => ⟨S16384x16, .f32⟩
  | .hbm, ⟨31, _⟩ => ⟨S16384x10, .f32⟩
  | .local .tc .vmem, ⟨0, _⟩ => ⟨S1x1536, .f32⟩
  | .local .tc .vmem, ⟨1, _⟩ => ⟨S1536x128, .f32⟩
  | .local .tc .vmem, ⟨2, _⟩ => ⟨S1x128, .f32⟩
  | .local .tc .vmem, ⟨3, _⟩ => ⟨S128x16, .f32⟩
  | .local .tc .vmem, ⟨4, _⟩ => ⟨S1x16, .f32⟩
  | .local .tc .vmem, ⟨5, _⟩ => ⟨S16x16, .f32⟩
  | .local .scVector .vmem, ⟨0, _⟩ => ⟨S512, .i32⟩
  | .local .scVector .vmem, ⟨1, _⟩ => ⟨S512x128, .f32⟩
  | .local .scVector .vmem, ⟨2, _⟩ => ⟨S512x16, .f32⟩
  | .local .scVector .vmem, ⟨3, _⟩ => ⟨S16x16, .f32⟩
  | .local .scVector .vmem, ⟨4, _⟩ => ⟨S10x128, .f32⟩
  | .local .scVector .vmem, ⟨5, _⟩ => ⟨S10x16, .f32⟩
  | .local .scVector .vmem, ⟨6, _⟩ => ⟨S16, .f32⟩
  | _, _ => ⟨S16384, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => false
  | ⟨9, _⟩ => false
  | ⟨10, _⟩ => false
  | ⟨11, _⟩ => false
  | ⟨12, _⟩ => false
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_c_0 : Ref sig .tc := ⟨.hbm, 18, rfl⟩
abbrev main_call1_v0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c_1 : Ref sig .tc := ⟨.hbm, 23, rfl⟩
abbrev main_call2_v0 : Ref sig .tc := ⟨.hbm, 24, rfl⟩
abbrev main_v10 : Ref sig .tc := ⟨.hbm, 25, rfl⟩
abbrev main_c_2 : Ref sig .tc := ⟨.hbm, 26, rfl⟩
abbrev main_call3_v0 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_arg4_scv : Ref sig .scVector := ⟨.hbm, 4, rfl⟩
abbrev main_arg0_scv : Ref sig .scVector := ⟨.hbm, 0, rfl⟩
abbrev main_v8_scv : Ref sig .scVector := ⟨.hbm, 21, rfl⟩
abbrev main_v12_scv : Ref sig .scVector := ⟨.hbm, 29, rfl⟩
abbrev main_v10_scv : Ref sig .scVector := ⟨.hbm, 25, rfl⟩
abbrev main_v11_scv : Ref sig .scVector := ⟨.hbm, 28, rfl⟩
abbrev main_v13_scv : Ref sig .scVector := ⟨.hbm, 30, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc1_scratch6 : Ref sig .scVector := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S1x1536 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
@[reducible] def k1_t1_loop : Scf.Loop 32 :=
  let c0_i32_189 : BitVec 32 := 0#32
  let c512_i32_190 : BitVec 32 := 512#32
  let v307 : BitVec 32 := Scalar.addi c0_i32_189 c512_i32_190
  let c1_i32_191 : BitVec 32 := 1#32
  ⟨c0_i32_189, v307, c1_i32_191⟩
def k1_off2 (k1_t1 : Fin k1_t1_loop.trips) : Fin 2 → Nat :=
  let c0_i32_189 : BitVec 32 := 0#32
  let c1_i32_191 : BitVec 32 := 1#32
  let arg17 : BitVec 32 := Scf.iv c0_i32_189 c1_i32_191 k1_t1
  let v308 : Index := Scalar.indexCast arg17
  let c0_193 : Index := 0#32
  ![v308.toNat, 0]
def k1_off3 (k1_t1 : Fin k1_t1_loop.trips) : Fin 2 → Nat :=
  let c0_i32_189 : BitVec 32 := 0#32
  let c1_i32_191 : BitVec 32 := 1#32
  let arg17 : BitVec 32 := Scf.iv c0_i32_189 c1_i32_191 k1_t1
  let v311 : Index := Scalar.indexCast arg17
  let c16_194 : Index := 16#32
  ![v311.toNat, 16]
def k1_off4 (k1_t1 : Fin k1_t1_loop.trips) : Fin 2 → Nat :=
  let c0_i32_189 : BitVec 32 := 0#32
  let c1_i32_191 : BitVec 32 := 1#32
  let arg17 : BitVec 32 := Scf.iv c0_i32_189 c1_i32_191 k1_t1
  let v314 : Index := Scalar.indexCast arg17
  let c32_195 : Index := 32#32
  ![v314.toNat, 32]
def k1_off5 (k1_t1 : Fin k1_t1_loop.trips) : Fin 2 → Nat :=
  let c0_i32_189 : BitVec 32 := 0#32
  let c1_i32_191 : BitVec 32 := 1#32
  let arg17 : BitVec 32 := Scf.iv c0_i32_189 c1_i32_191 k1_t1
  let v317 : Index := Scalar.indexCast arg17
  let c48_196 : Index := 48#32
  ![v317.toNat, 48]
def k1_off6 (k1_t1 : Fin k1_t1_loop.trips) : Fin 2 → Nat :=
  let c0_i32_189 : BitVec 32 := 0#32
  let c1_i32_191 : BitVec 32 := 1#32
  let arg17 : BitVec 32 := Scf.iv c0_i32_189 c1_i32_191 k1_t1
  let v320 : Index := Scalar.indexCast arg17
  let c64_197 : Index := 64#32
  ![v320.toNat, 64]
def k1_off7 (k1_t1 : Fin k1_t1_loop.trips) : Fin 2 → Nat :=
  let c0_i32_189 : BitVec 32 := 0#32
  let c1_i32_191 : BitVec 32 := 1#32
  let arg17 : BitVec 32 := Scf.iv c0_i32_189 c1_i32_191 k1_t1
  let v323 : Index := Scalar.indexCast arg17
  let c80_198 : Index := 80#32
  ![v323.toNat, 80]
def k1_off8 (k1_t1 : Fin k1_t1_loop.trips) : Fin 2 → Nat :=
  let c0_i32_189 : BitVec 32 := 0#32
  let c1_i32_191 : BitVec 32 := 1#32
  let arg17 : BitVec 32 := Scf.iv c0_i32_189 c1_i32_191 k1_t1
  let v326 : Index := Scalar.indexCast arg17
  let c96_199 : Index := 96#32
  ![v326.toNat, 96]
def k1_off9 (k1_t1 : Fin k1_t1_loop.trips) : Fin 2 → Nat :=
  let c0_i32_189 : BitVec 32 := 0#32
  let c1_i32_191 : BitVec 32 := 1#32
  let arg17 : BitVec 32 := Scf.iv c0_i32_189 c1_i32_191 k1_t1
  let v329 : Index := Scalar.indexCast arg17
  let c112_200 : Index := 112#32
  ![v329.toNat, 112]
def k1_off10 (k1_t1 : Fin k1_t1_loop.trips) : Fin 2 → Nat :=
  let c0_i32_189 : BitVec 32 := 0#32
  let c1_i32_191 : BitVec 32 := 1#32
  let arg17 : BitVec 32 := Scf.iv c0_i32_189 c1_i32_191 k1_t1
  let v1802 : Index := Scalar.indexCast arg17
  let c0_504 : Index := 0#32
  ![v1802.toNat, 0]
def k1_off11 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_193_r5 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384 : Shape := ⟨1, ![16384]⟩
abbrev S1536 : Shape := ⟨1, ![1536]⟩
abbrev S128x1536 : Shape := ⟨2, ![128, 1536]⟩
abbrev S128 : Shape := ⟨1, ![128]⟩
abbrev S100000x128 : Shape := ⟨2, ![100000, 128]⟩
abbrev S10x256 : Shape := ⟨2, ![10, 256]⟩
abbrev S10 : Shape := ⟨1, ![10]⟩
abbrev S10x10 : Shape := ⟨2, ![10, 10]⟩
abbrev S1536x128 : Shape := ⟨2, ![1536, 128]⟩
abbrev S1x128 : Shape := ⟨2, ![1, 128]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x128 : Shape := ⟨2, ![16384, 128]⟩
abbrev S16384x256 : Shape := ⟨2, ![16384, 256]⟩
abbrev S256x10 : Shape := ⟨2, ![256, 10]⟩
abbrev S16384x10 : Shape := ⟨2, ![16384, 10]⟩
abbrev S1x10 : Shape := ⟨2, ![1, 10]⟩

abbrev nBuf : Space → Nat
  | .hbm => 51
  | .vmem => 0
  | .smem => 0
  | _ => 0

abbrev bufTy : (tb : Table) → Fin (tcTables nBuf tb) → BufTy
  | .hbm, ⟨0, _⟩ => ⟨S16384, .i32⟩
  | .hbm, ⟨1, _⟩ => ⟨S1536, .f32⟩
  | .hbm, ⟨2, _⟩ => ⟨S128x1536, .f32⟩
  | .hbm, ⟨3, _⟩ => ⟨S128, .f32⟩
  | .hbm, ⟨4, _⟩ => ⟨S100000x128, .f32⟩
  | .hbm, ⟨5, _⟩ => ⟨S10x256, .f32⟩
  | .hbm, ⟨6, _⟩ => ⟨S10, .f32⟩
  | .hbm, ⟨7, _⟩ => ⟨S10x10, .f32⟩
  | .hbm, ⟨8, _⟩ => ⟨S10, .f32⟩
  | .hbm, ⟨9, _⟩ => ⟨S1536x128, .f32⟩
  | .hbm, ⟨10, _⟩ => ⟨S128, .f32⟩
  | .hbm, ⟨11, _⟩ => ⟨S128, .f32⟩
  | .hbm, ⟨12, _⟩ => ⟨S1x128, .f32⟩
  | .hbm, ⟨13, _⟩ => ⟨S_, .i32⟩
  | .hbm, ⟨14, _⟩ => ⟨S16384, .i32⟩
  | .hbm, ⟨15, _⟩ => ⟨S16384, .i1⟩
  | .hbm, ⟨16, _⟩ => ⟨S_, .i32⟩
  | .hbm, ⟨17, _⟩ => ⟨S16384, .i32⟩
  | .hbm, ⟨18, _⟩ => ⟨S16384, .i32⟩
  | .hbm, ⟨19, _⟩ => ⟨S16384, .i32⟩
  | .hbm, ⟨20, _⟩ => ⟨S16384x1, .i32⟩
  | .hbm, ⟨21, _⟩ => ⟨S1, .i32⟩
  | .hbm, ⟨22, _⟩ => ⟨S_, .i32⟩
  | .hbm, ⟨23, _⟩ => ⟨S16384x1, .i32⟩
  | .hbm, ⟨24, _⟩ => ⟨S16384x1, .i1⟩
  | .hbm, ⟨25, _⟩ => ⟨S1x1, .i32⟩
  | .hbm, ⟨26, _⟩ => ⟨S16384x1, .i32⟩
  | .hbm, ⟨27, _⟩ => ⟨S16384x1, .i1⟩
  | .hbm, ⟨28, _⟩ => ⟨S16384x1, .i1⟩
  | .hbm, ⟨29, _⟩ => ⟨S_, .i1⟩
  | .hbm, ⟨30, _⟩ => ⟨S16384, .i1⟩
  | .hbm, ⟨31, _⟩ => ⟨S16384x128, .f32⟩
  | .hbm, ⟨32, _⟩ => ⟨S16384x128, .i1⟩
  | .hbm, ⟨33, _⟩ => ⟨S_, .f32⟩
  | .hbm, ⟨34, _⟩ => ⟨S16384x128, .f32⟩
  | .hbm, ⟨35, _⟩ => ⟨S16384x128, .f32⟩
  | .hbm, ⟨36, _⟩ => ⟨S16384x128, .f32⟩
  | .hbm, ⟨37, _⟩ => ⟨S16384x256, .f32⟩
  | .hbm, ⟨38, _⟩ => ⟨S256x10, .f32⟩
  | .hbm, ⟨39, _⟩ => ⟨S16384x10, .f32⟩
  | .hbm, ⟨40, _⟩ => ⟨S1x10, .f32⟩
  | .hbm, ⟨41, _⟩ => ⟨S16384x10, .f32⟩
  | .hbm, ⟨42, _⟩ => ⟨S16384x10, .f32⟩
  | .hbm, ⟨43, _⟩ => ⟨S_, .f32⟩
  | .hbm, ⟨44, _⟩ => ⟨S16384x10, .f32⟩
  | .hbm, ⟨45, _⟩ => ⟨S16384x10, .f32⟩
  | .hbm, ⟨46, _⟩ => ⟨S10x10, .f32⟩
  | .hbm, ⟨47, _⟩ => ⟨S16384x10, .f32⟩
  | .hbm, ⟨48, _⟩ => ⟨S1x10, .f32⟩
  | .hbm, ⟨49, _⟩ => ⟨S16384x10, .f32⟩
  | .hbm, ⟨50, _⟩ => ⟨S16384x10, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_call1_cst : Ref sig .tc := ⟨.hbm, 43, rfl⟩
abbrev main_call1_v0 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩

abbrev nD : Nat := 1
abbrev τ : Topo := Topo.v7x

variable {F : FTy → Type} [FloatOps F]
-- ==== Proof.Row.lean ====
/-
  The value one trip of the SparseCore loop stores: sixteen lanes, computed from the eight chunks of a gathered row, the
  eighty chunks of the first layer's embedding half, the ten rows of the prompt half, the ten rows of the second layer
  and the second layer's bias. Stated for any float values `F`, operation by operation as the kernel computes it.
-/
module

public import proofs.«01_k».proof.Proof.Gen.KernelIdeal

@[expose] public section

noncomputable section

namespace Cert.Proof

open Cert.KernelIdeal Cert.KernelIdeal.Gen
open Idealize.ShloMosaic Idealize.SL.Sem

variable {F : FTy → Type} [FloatOps F]

/-- Lane `n` of a sixteen-lane vector, taken as the kernel takes it: a one-lane slice, then its element. -/
def laneAt (n : ℕ) (h : S16.Slices ![n] S1) (v : FVec F S16 .f32) : F .f32 :=
  extractAt ![0] (extractStridedSlice S1 ![n] v h) inpos_S1_p0

/-- One step of the prefix sum: lane `n` of `p` is added to every lane numbered `n` or more. -/
def scanStep (n : ℕ) (h : S16.Slices ![n] S1) (p s : FVec F S16 .f32) : FVec F S16 .f32 :=
  addf s (select (cmpi .sge (iota .scVector S16 32 [0] iota_S16_d0_w32_scVector) (broadcast S16 (BitVec.ofNat 32 n)))
    (broadcast S16 (laneAt n h p)) (broadcast S16 (Scalar.ofBits .f32 0x00000000#32)))

/-- The prefix sums of sixteen lanes. -/
def scan (p : FVec F S16 .f32) : FVec F S16 .f32 :=
  scanStep 15 slices_S16_o15_S1 p <| scanStep 14 slices_S16_o14_S1 p <| scanStep 13 slices_S16_o13_S1 p <|
  scanStep 12 slices_S16_o12_S1 p <| scanStep 11 slices_S16_o11_S1 p <| scanStep 10 slices_S16_o10_S1 p <|
  scanStep 9 slices_S16_o9_S1 p <| scanStep 8 slices_S16_o8_S1 p <| scanStep 7 slices_S16_o7_S1 p <|
  scanStep 6 slices_S16_o6_S1 p <| scanStep 5 slices_S16_o5_S1 p <| scanStep 4 slices_S16_o4_S1 p <|
  scanStep 3 slices_S16_o3_S1 p <| scanStep 2 slices_S16_o2_S1 p <| scanStep 1 slices_S16_o1_S1 p <|
  broadcast S16 (laneAt 0 slices_S16_o0_S1 p)

/-- The lanewise products of eight chunks with eight chunks, summed chunk by chunk. -/
def dotLanes (e w : Fin 8 → FVec F S16 .f32) : FVec F S16 .f32 :=
  addf (addf (addf (addf (addf (addf (addf (mulf (e 0) (w 0)) (mulf (e 1) (w 1))) (mulf (e 2) (w 2))) (mulf (e 3) (w 3)))
    (mulf (e 4) (w 4))) (mulf (e 5) (w 5))) (mulf (e 6) (w 6))) (mulf (e 7) (w 7))

/-- One hidden unit's contribution added to the accumulator `x`: the total of the prefix sums, plus the prompt half,
    clipped below at zero, times the unit's row of the second layer. -/
def unitStep (x : FVec F S16 .f32) (e w : Fin 8 → FVec F S16 .f32) (c u : FVec F S16 .f32) : FVec F S16 .f32 :=
  addf x (mulf (maximumf (addf (broadcast S16 (laneAt 15 slices_S16_o15_S1 (scan (dotLanes e w)))) c)
    (broadcast S16 (Scalar.ofBits .f32 0x00000000#32))) u)

/-- The sixteen lanes a trip stores: the bias, then the ten hidden units in order. -/
def rowLanes (b : FVec F S16 .f32) (e : Fin 8 → FVec F S16 .f32) (w : Fin 10 → Fin 8 → FVec F S16 .f32)
    (c u : Fin 10 → FVec F S16 .f32) : FVec F S16 .f32 :=
  unitStep (unitStep (unitStep (unitStep (unitStep (unitStep (unitStep (unitStep (unitStep (unitStep b
    e (w 0) (c 0) (u 0)) e (w 1) (c 1) (u 1)) e (w 2) (c 2) (u 2)) e (w 3) (c 3) (u 3)) e (w 4) (c 4) (u 4))
    e (w 5) (c 5) (u 5)) e (w 6) (c 6) (u 6)) e (w 7) (c 7) (u 7)) e (w 8) (c 8) (u 8)) e (w 9) (c 9) (u 9)

end Cert.Proof

end
-- ==== Proof.Common.lean ====
/-
  The program as the launch of its threads sees it, and what the proof modules share: the call structure, the ghost state,
  the arrays and scratch buffers as each thread names them.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Row

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI Idealize.SL.Sem
open Idealize.ShloMosaic.Rounds

variable {F : FTy → Type}

/-! ## The program -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's own semaphores are distinct and unscoped, and the cores share no scoped buffer. -/
theorem launchFacts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The ghost state: the handshakes, the TensorCore call's pipeline, the local transfers' counters -/

abbrev UH : Type := URounds (GSem nD τ sig) ℕ
abbrev UT : Type := UR sig nD τ × Counters
abbrev UU : Type := UH × UT

/-- The resource algebra of the proof. -/
abbrev RA₀ (F : FTy → Type) : Type := MT nD τ sig (HIx 1) (Elt F) ℕ UU ℕ

abbrev EH : Emb UH (RA₀ F) := embL
abbrev EP : Emb (UR sig nD τ) (RA₀ F) := (Emb.inl : Emb (UR sig nD τ) UT).trans embR

/-! ## The kernel's buffers, as a tile names them -/

abbrev tabM : Memref sig .scVector .hbm S100000x128 .f32 := Memref.whole main_arg4_scv
abbrev idsM : Memref sig .scVector .hbm S16384 .i32 := Memref.whole main_arg0_scv
abbrev c1M : Memref sig .scVector .hbm S16x16 .f32 := Memref.whole main_v8_scv
abbrev w1M : Memref sig .scVector .hbm S10x128 .f32 := Memref.whole main_v12_scv
abbrev w2M : Memref sig .scVector .hbm S10x16 .f32 := Memref.whole main_v10_scv
abbrev b2M : Memref sig .scVector .hbm S16 .f32 := Memref.whole main_v11_scv
abbrev outM : Memref sig .scVector .hbm S16384x16 .f32 := Memref.whole main_v13_scv
abbrev idsV : Memref sig .scVector .vmem S512 .i32 := Memref.whole cc1_scratch0
abbrev rowsV : Memref sig .scVector .vmem S512x128 .f32 := Memref.whole cc1_scratch1
abbrev outV : Memref sig .scVector .vmem S512x16 .f32 := Memref.whole cc1_scratch2
abbrev c1V : Memref sig .scVector .vmem S16x16 .f32 := Memref.whole cc1_scratch3
abbrev w1V : Memref sig .scVector .vmem S10x128 .f32 := Memref.whole cc1_scratch4
abbrev w2V : Memref sig .scVector .vmem S10x16 .f32 := Memref.whole cc1_scratch5
abbrev b2V : Memref sig .scVector .vmem S16 .f32 := Memref.whole cc1_scratch6

/-- The SparseCore and the tile a grid point names, and its thread on device `d`. -/
abbrev cV (L : grid1.Coords) : Fin τ.nSC := (L 0).castLE hcore1
abbrev jV (L : grid1.Coords) : Fin τ.nSub := (L 1).castLE hsub1
abbrev tile (d : Dev nD) (L : grid1.Coords) : Thread nD τ := V d (cV L) (jV L)

end Cert.Proof

end
-- ==== Proof.Region.lean ====
/-
  The TensorCore call: its body run once on five staged arrays, the data its pipeline is proved with, and the whole call as
  a region of @main, entered while the TensorCore still owes the SparseCores their start signals. It leaves every array as
  it was but the result's, which holds the product's block `k0_pay1` of the five operands.
-/
module

public import proofs.«01_k».proof.Proof.Common
public import proofs.«01_k».proof.Proof.Gen.KernelIdeal.Points
public import Idealize.ShloMosaic.Lib.Pipeline.RegionsLoop
public import Idealize.ShloMosaic.Lib.Pipeline.Value

@[expose] public section

noncomputable section

namespace Cert.Proof

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- A TensorCore buffer's contents, and the buffer held whole at them. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp (RA₀ F) :=
  M.view.loc (c : Thread nD τ) ↦{fullShare} f

/-- A load of a whole buffer from its origin reads what it holds. -/
theorem load_origin (b : Ref sig .tc) {off : Fin b.ty.shape.rank → Nat} (h : ∀ a, off a = 0) (inb : ∀ a, off a + b.ty.shape.size a ≤ b.ty.shape.size a)
    (f : b.ty.Contents (Elt F)) :
    (Memref.whole b : Memref sig .tc _ _ _).view.readAt (Elt F) (Rect.unit (s := b.ty.shape) off b.ty.shape.size inb).toLoadRect f = f := by
  funext x
  show f _ = f x
  congr 1; funext a; apply Fin.ext
  show off a + 1 * (x a).val = (x a).val
  rw [h a]; omega

/-- A buffer written whole from its origin holds what was written. -/
theorem store_origin (b : Ref sig .tc) {off : Fin b.ty.shape.rank → Nat} (h : ∀ a, off a = 0) (inb : ∀ a, off a + b.ty.shape.size a ≤ b.ty.shape.size a)
    (f : b.ty.Contents (Elt F)) (w : b.ty.shape.Idx → Elt F b.ty.elt) :
    (Memref.whole b : Memref sig .tc _ _ _).view.writes (Elt F) f [⟨Rect.unit (s := b.ty.shape) off b.ty.shape.size inb, w⟩] = w := by
  funext x
  have hr := View.read_writes_cons_emb (Val := Elt F) (v := (Memref.whole b).view) (f := f) (Rect.unit (s := b.ty.shape) off b.ty.shape.size inb) w [] x
  have he : (Rect.unit (s := b.ty.shape) off b.ty.shape.size inb).emb x = x := by
    funext a; apply Fin.ext
    show off a + 1 * (x a).val = (x a).val
    rw [h a]; omega
  rw [he] at hr
  exact hr

/-- The origin of a matrix. -/
theorem origin2 : ∀ a : Fin 2, (![0, 0] : Fin 2 → Nat) a = 0 := by decide

/-- The body, from its six staging buffers held whole, hands the five operands back as they were and the result's at the
    product's block. -/
theorem c1_body (c : Dev nD) (f0 : Bf (F := F) c (stage0_0 0)) (f1 : Bf (F := F) c (stage0_1 0)) (f2 : Bf (F := F) c (stage0_2 0))
    (f3 : Bf (F := F) c (stage0_3 0)) (f4 : Bf (F := F) c (stage0_4 0)) (f5 : Bf (F := F) c (stage0_5 0)) (E : Set ℕ) (Q : PUnit → sProp (RA₀ F)) :
    iprop(pt c (stage0_0 0) f0 ∗ pt c (stage0_1 0) f1 ∗ pt c (stage0_2 0) f2 ∗ pt c (stage0_3 0) f3 ∗ pt c (stage0_4 0) f4 ∗ pt c (stage0_5 0) f5
        ∗ (iprop(pt c (stage0_0 0) f0 ∗ pt c (stage0_1 0) f1 ∗ pt c (stage0_2 0) f2 ∗ pt c (stage0_3 0) f3 ∗ pt c (stage0_4 0) f4
            ∗ pt c (stage0_5 0) (k0_pay1 f0 f1 f2 f3 f4)) -∗ Q ⟨⟩))
      ⊢ wp frame (wpE (defs₀ (F := F)) 𝒱₀ c none) E
          (cc0__c1_body (stage0_0 0) (hstage0_0 0) (stage0_1 0) (hstage0_1 0) (stage0_2 0) (hstage0_2 0) (stage0_3 0) (hstage0_3 0)
            (stage0_4 0) (hstage0_4 0) (stage0_5 0) (hstage0_5 0)) Q := by
  rw [cc0__c1_body_eq_skeleton]
  unfold cc0__c1_body_skel
  iintro ⟨H0, H1, H2, H3, H4, H5, Hk⟩
  sl_exec!
  sl_step
  iapply Hk
  isplitl [H0]; · iexact H0
  isplitl [H1]; · iexact H1
  isplitl [H2]; · iexact H2
  isplitl [H3]; · iexact H3
  isplitl [H4]; · iexact H4
  have e : (stage0_5 0).view.writes (Elt F) (stage0_5 0).view.junk (c1_body.sl.H5_1 c f0 f1 f2 f3 f4) = k0_pay1 f0 f1 f2 f3 f4 := by
    refine (store_origin cc0_stg5_0 origin2 _ _ _).trans ?_
    have e0 := load_origin (F := F) cc0_stg0_0 origin2 inb_S1x1536_S1x1536_0_0 f0
    have e1 := load_origin (F := F) cc0_stg1_0 origin2 inb_S1536x128_S1536x128_0_0 f1
    have e2 := load_origin (F := F) cc0_stg2_0 origin2 inb_S1x128_S1x128_0_0 f2
    have e3 := load_origin (F := F) cc0_stg3_0 origin2 inb_S128x16_S128x16_0_0 f3
    have e4 := load_origin (F := F) cc0_stg4_0 origin2 inb_S1x16_S1x16_0_0 f4
    congr 1
  ihave H5 := (Entails.of_eq (congrArg (pt c (stage0_5 0)) e)) $$ H5
  iexact H5

/-! ## The pipeline's data -/

variable (VV : (c : Dev nD) → (b : Ref sig .tc) → Buf (Elt F) ((c : Thread nD τ).loc b)) (O : CellTallies nD τ sig (HIx 1)) (b₀ : ℕ)

/-- Each operand's block as the fetch stages it. -/
abbrev stg0 (c : Dev nD) : S1x1536.Idx → Elt F .f32 := ((cfg0.win 0).blk t0_0).view.read (Elt F) (VV c main_v0)
abbrev stg1 (c : Dev nD) : S1536x128.Idx → Elt F .f32 := ((cfg0.win 1).blk t0_0).view.read (Elt F) (VV c main_v1)
abbrev stg2 (c : Dev nD) : S1x128.Idx → Elt F .f32 := ((cfg0.win 2).blk t0_0).view.read (Elt F) (VV c main_v2)
abbrev stg3 (c : Dev nD) : S128x16.Idx → Elt F .f32 := ((cfg0.win 3).blk t0_0).view.read (Elt F) (VV c main_v5)
abbrev stg4 (c : Dev nD) : S1x16.Idx → Elt F .f32 := ((cfg0.win 4).blk t0_0).view.read (Elt F) (VV c main_v7)

/-- The proof data: the arrays at the entry valuation; after the body the operands' buffers as fetched and the result's at
    the product's block; what the core owes throughout, its recorded waits at or below `b₀`. -/
def dat (c : Dev nD) : Dat τ (Elt F) (HIx 1) ℕ UU ℕ cfg0 c where
  A w := VV c (Pipeline.arrRef spec0 w)
  after w _ := match w with
    | ⟨0, _⟩ => stg0 VV c
    | ⟨1, _⟩ => stg1 VV c
    | ⟨2, _⟩ => stg2 VV c
    | ⟨3, _⟩ => stg3 VV c
    | ⟨4, _⟩ => stg4 VV c
    | ⟨5, _⟩ => k0_pay1 (stg0 VV c) (stg1 VV c) (stg2 VV c) (stg3 VV c) (stg4 VV c)
  Φ _ := Pipeline.scopedRest (Ix := HIx 1) (Name := ℕ) (U := UU) (Lvl := ℕ) (Val := Elt F) spec0 c
  q _ := fullShare
  owed _ := O
  recorded _ := {p | (K (F := F)).lev (T c, p.1) p.2 ≤ b₀}

variable (adm : (p : Fin 1) → (pcfgs (F := F) p).Adm)

/-- The family of one. -/
def pdats : (p : Fin 1) → (c : Dev nD) → Dat τ (Elt F) (HIx 1) ℕ UU ℕ (Pipeline.pin (pcfgs (F := F)) adm p) c
  | ⟨0, _⟩ => fun c => dat VV O b₀ c

/-- When the body runs, each operand's buffer holds its block. -/
theorem before0 (c : Dev nD) (d : (cfg0.win 0).block.Idx → Elt F (cfg0.win 0).elt) : (dat VV O b₀ c).before 0 t0_0 d = stg0 VV c := by
  unfold Dat.before; rw [if_pos (by decide)]; rfl
theorem before1 (c : Dev nD) (d : (cfg0.win 1).block.Idx → Elt F (cfg0.win 1).elt) : (dat VV O b₀ c).before 1 t0_0 d = stg1 VV c := by
  unfold Dat.before; rw [if_pos (by decide)]; rfl
theorem before2 (c : Dev nD) (d : (cfg0.win 2).block.Idx → Elt F (cfg0.win 2).elt) : (dat VV O b₀ c).before 2 t0_0 d = stg2 VV c := by
  unfold Dat.before; rw [if_pos (by decide)]; rfl
theorem before3 (c : Dev nD) (d : (cfg0.win 3).block.Idx → Elt F (cfg0.win 3).elt) : (dat VV O b₀ c).before 3 t0_0 d = stg3 VV c := by
  unfold Dat.before; rw [if_pos (by decide)]; rfl
theorem before4 (c : Dev nD) (d : (cfg0.win 4).block.Idx → Elt F (cfg0.win 4).elt) : (dat VV O b₀ c).before 4 t0_0 d = stg4 VV c := by
  unfold Dat.before; rw [if_pos (by decide)]; rfl

/-- The body's obligation at the one point. -/
theorem body_obligation (c : Dev nD) : BodyObligation (dat VV O b₀ c) (defs₀ (F := F)) 𝒱₀ none Set.univ := fun t => by
  obtain rfl := fin_N0 t
  rw [bigSep_W0, bigSep_W0]
  simp only [owns_whole_eq]
  rw [show (dat VV O b₀ c).Φ t0_0.castSucc = (dat VV O b₀ c).Φ t0_0.succ from rfl,
    show (dat VV O b₀ c).owesAt none t0_0.succ = (dat VV O b₀ c).owesAt none t0_0.castSucc from rfl]
  iintro ⟨HΦ, Howes, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, -, H5⟩⟩
  rw [before0] at hf0; rw [before1] at hf1; rw [before2] at hf2; rw [before3] at hf3; rw [before4] at hf4
  subst hf0; subst hf1; subst hf2; subst hf3; subst hf4
  iapply (c1_body c (stg0 VV c) (stg1 VV c) (stg2 VV c) (stg3 VV c) (stg4 VV c) f5 Set.univ _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [Howes]; · iexact Howes
  isplitl [H0]; · iexists _; isplitr; swap; (· iexact H0); ipureintro; dsimp only [dat]
  isplitl [H1]; · iexists _; isplitr; swap; (· iexact H1); ipureintro; dsimp only [dat]
  isplitl [H2]; · iexists _; isplitr; swap; (· iexact H2); ipureintro; dsimp only [dat]
  isplitl [H3]; · iexists _; isplitr; swap; (· iexact H3); ipureintro; dsimp only [dat]
  isplitl [H4]; · iexists _; isplitr; swap; (· iexact H4); ipureintro; dsimp only [dat]
  iexists _; isplitr; swap; (· iexact H5); ipureintro; dsimp only [dat]

/-- The result's array after the call. -/
def c1Array (c : Dev nD) : S16x16.Idx → Elt F .f32 := k0_pay1 (VV c main_v0) (VV c main_v1) (VV c main_v2) (VV c main_v5) (VV c main_v7)

/-- A whole window's one block is its array, element by element. -/
theorem emb_origin {G : Pipeline.Grid} (w : Window sig G) (t : Fin G.N) (hk : w.kind = .blocked) (h : ∀ a, w.index t a = 0)
    (y : (w.xblock (G.coords t)).Idx) (a : Fin w.shape.rank) : ((w.rect t).emb y a : Nat) = y a := by
  rw [Pipeline.Window.rect_emb_val w t y a hk, h a]; omega

theorem stg0_eq (c : Dev nD) : stg0 VV c = VV c main_v0 :=
  funext fun x => congrArg (VV c main_v0) (funext fun a => Fin.ext (emb_origin win0_0 t0_0 rfl (fun _ => rfl) x a))
theorem stg1_eq (c : Dev nD) : stg1 VV c = VV c main_v1 :=
  funext fun x => congrArg (VV c main_v1) (funext fun a => Fin.ext (emb_origin win0_1 t0_0 rfl (fun _ => rfl) x a))
theorem stg2_eq (c : Dev nD) : stg2 VV c = VV c main_v2 :=
  funext fun x => congrArg (VV c main_v2) (funext fun a => Fin.ext (emb_origin win0_2 t0_0 rfl (fun _ => rfl) x a))
theorem stg3_eq (c : Dev nD) : stg3 VV c = VV c main_v5 :=
  funext fun x => congrArg (VV c main_v5) (funext fun a => Fin.ext (emb_origin win0_3 t0_0 rfl (fun _ => rfl) x a))
theorem stg4_eq (c : Dev nD) : stg4 VV c = VV c main_v7 :=
  funext fun x => congrArg (VV c main_v7) (funext fun a => Fin.ext (emb_origin win0_4 t0_0 rfl (fun _ => rfl) x a))
/-- The result's one block is the whole result. -/
theorem blk5_emb (x : S16x16.Idx) : (cfg0.win 5 |>.blk t0_0).view.emb x = x :=
  funext fun a => Fin.ext (emb_origin win0_5 t0_0 rfl (fun _ => rfl) x a)

/-- The write-back leaves it so. -/
theorem result_eq (c : Dev nD) : (dat VV O b₀ c).arrAt 5 cfg0.N = c1Array VV c := by
  have hA : c1Array VV c = k0_pay1 (stg0 VV c) (stg1 VV c) (stg2 VV c) (stg3 VV c) (stg4 VV c) := by
    rw [stg0_eq, stg1_eq, stg2_eq, stg3_eq, stg4_eq]; rfl
  refine Dat.arrAt_eq_of_cover _ 5 _ (fun t _ => ?_) (fun i => ⟨t0_0, flush0_5 _, ?_⟩)
  · obtain rfl := fin_N0 t
    rw [hA]
    generalize hk : k0_pay1 (stg0 VV c) (stg1 VV c) (stg2 VV c) (stg3 VV c) (stg4 VV c) = kk
    have hf : (dat VV O b₀ c).flushed 5 t0_0 = kk := by
      rw [← hk]; rfl
    rw [hf]
    funext x
    exact (congrArg kk (blk5_emb x)).symm
  · have h := View.emb_mem_set (cfg0.win 5 |>.blk t0_0).view i
    rw [blk5_emb] at h
    exact h

variable (Vp : (c : Dev nD) → (b : Ref sig .tc) → Buf (Elt F) ((c : Thread nD τ).loc b))

set_option backward.isDefEq.respectTransparency.types false in
/-- The call as a region: entered with every unscoped buffer at `VV`, what rides along, and the core owing `O` with its
    recorded waits at or below `b₀`; left with them at `Vp`, which differs from `VV` at the result only. -/
def reg (R : Dev nD → sProp (RA₀ F)) (hO : ∀ g, O g none = 0) (hVp_out : ∀ c, Vp c main_v8 = c1Array VV c)
    (hVp_ne : ∀ c (b : Ref sig .tc), b ≠ main_v8 → Vp c b = VV c b) :
    Pipeline.RegionSeg (pcfgs (F := F)) adm (pdats VV O b₀ adm) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation VV O b₀ c).loose
  hwaits c := Pipeline.cellsWaits_intro _ _ _ _ c fun _ _ _ => (K (F := F)).mayWait_none _ hO
  pre c := iprop(unscopedBufs c (VV c) ∗ R c ∗ ∃ W, ⌜(K (F := F)).WBelow (T c) W b₀⌝ ∗ owes (c : Thread nD τ) O W)
  post c := iprop(unscopedBufs c (Vp c) ∗ R c ∗ ∃ W, ⌜(K (F := F)).WBelow (T c) W b₀⌝ ∗ owes (c : Thread nD τ) O W)
  X _ := BI.emp
  Y _ := BI.emp
  Z c := iprop(Pipeline.unscopedRest (Ix := HIx 1) (Name := ℕ) (U := UU) (Lvl := ℕ) spec0 c (VV c) ∗ R c)
  hentry c := by
    rw [Pipeline.ownSems0_none]
    have hsplit := Pipeline.arrays_of_unscopedBufs (p := 0) (pcfgs (F := F)) adm (pdats VV O b₀ adm) launch0.win launch0.arr_whole c
      ((pdats VV O b₀ adm 0 c).share_full fun _ => rfl) (VV c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    isplitl [Hrest] <;> iassumption
  hin c := by
    rw [show (pdats VV O b₀ adm 0 c).Φ 0 = Pipeline.scopedRest spec0 c from rfl]
    iintro ⟨-, -, Hr⟩; iexact Hr
  hout c := by
    rw [Pipeline.ownSems0_none, show (pdats VV O b₀ adm 0 c).Φ (Fin.last _) = Pipeline.scopedRest spec0 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch0.win launch0.arr_whole c
      (pdats VV O b₀ adm) ((pdats VV O b₀ adm 0 c).share_full fun _ => rfl) (VV c) (Vp c) ((pdats VV O b₀ adm 0 c).arrAt · cfg0.N)
      (fun w => by
        fin_cases w
        · exact ((pdats VV O b₀ adm 0 c).arrAt_in 0 rfl _).trans (hVp_ne c main_v0 (by decide)).symm
        · exact ((pdats VV O b₀ adm 0 c).arrAt_in 1 rfl _).trans (hVp_ne c main_v1 (by decide)).symm
        · exact ((pdats VV O b₀ adm 0 c).arrAt_in 2 rfl _).trans (hVp_ne c main_v2 (by decide)).symm
        · exact ((pdats VV O b₀ adm 0 c).arrAt_in 3 rfl _).trans (hVp_ne c main_v5 (by decide)).symm
        · exact ((pdats VV O b₀ adm 0 c).arrAt_in 4 rfl _).trans (hVp_ne c main_v7 (by decide)).symm
        · exact (result_eq VV O b₀ c).trans (hVp_out c).symm)
      (fun b hb => hVp_ne c b fun h => hb (h ▸ Finset.mem_image.mpr ⟨5, Finset.mem_univ _, rfl⟩))
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%W, %hW, HO⟩; iexists W
    isplitr
    · ipureintro; intro p hp
      rcases hW hp with h | ⟨w, s, rfl⟩
      · exact h
      · exact Nat.zero_le _
    iexact HO

end Cert.Proof

end
-- ==== Proof.Trip.lean ====
/-
  One trip of the SparseCore loop, at any grid point: the eight chunks of the trip's gathered row are read, and row `k`
  of the output scratch is stored with the sixteen lanes `rowLanes` gives.
-/
module

public import proofs.«01_k».proof.Proof.Common

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type} [FloatOps F]

/-- The loop's region over its loaded values gathered into families: the bias, the first layer's chunks, the second
    layer's rows (the last as loaded) and the prompt half's rows (as loaded). -/
abbrev tripBody (L : grid1.Coords) (b : FVec F S16 .f32) (w : Fin 10 → Fin 8 → FVec F S16 .f32)
    (u : Fin 9 → FVec F S16 .f32) (u9 : Vec F S1x16 .f32) (c : Fin 10 → Vec F S1x16 .f32) :
    Fin k1_t1_loop.trips → Unit → Prog (TpuEff nD τ sig (Elt F) Λ₀ (.scVector (cV L) (jV L))) Unit :=
  k1_t1_body (F := F) L tabM (Memref.isWhole_whole _) idsM (Memref.isWhole_whole _) c1M (Memref.isWhole_whole _) w1M (Memref.isWhole_whole _) w2M (Memref.isWhole_whole _) b2M (Memref.isWhole_whole _) outM (Memref.isWhole_whole _)
        idsV (Memref.isWhole_whole _) rowsV (Memref.isWhole_whole _) outV (Memref.isWhole_whole _) c1V (Memref.isWhole_whole _) w1V (Memref.isWhole_whole _) w2V (Memref.isWhole_whole _) b2V (Memref.isWhole_whole _)
        cc1_scratch7 cc1_scoped0 cc1_scoped1 cc1_scoped2 cc1_scoped3 cc1_scoped4 cc1_scoped5
        b (w 0 0) (w 0 1) (w 0 2) (w 0 3) (w 0 4) (w 0 5) (w 0 6) (w 0 7) (w 1 0) (w 1 1) (w 1 2) (w 1 3) (w 1 4) (w 1
        5) (w 1 6) (w 1 7) (w 2 0) (w 2 1) (w 2 2) (w 2 3) (w 2 4) (w 2 5) (w 2 6) (w 2 7) (w 3 0) (w 3 1) (w 3 2) (w
        3 3) (w 3 4) (w 3 5) (w 3 6) (w 3 7) (w 4 0) (w 4 1) (w 4 2) (w 4 3) (w 4 4) (w 4 5) (w 4 6) (w 4 7) (w 5 0)
        (w 5 1) (w 5 2) (w 5 3) (w 5 4) (w 5 5) (w 5 6) (w 5 7) (w 6 0) (w 6 1) (w 6 2) (w 6 3) (w 6 4) (w 6 5) (w 6
        6) (w 6 7) (w 7 0) (w 7 1) (w 7 2) (w 7 3) (w 7 4) (w 7 5) (w 7 6) (w 7 7) (w 8 0) (w 8 1) (w 8 2) (w 8 3) (w
        8 4) (w 8 5) (w 8 6) (w 8 7) (w 9 0) (w 9 1) (w 9 2) (w 9 3) (w 9 4) (w 9 5) (w 9 6) (w 9 7) (u 0) (u 1) (u 2)
        (u 3) (u 4) (u 5) (u 6) (u 7) (u 8) u9 (c 0) (c 1) (c 2) (c 3) (c 4) (c 5) (c 6) (c 7) (c 8) (c 9)

/-- Chunk `n` of row `k` of the rows scratch held at `f`, as the trip loads it. -/
def chunk (f : S512x128.Idx → F .f32) (k : Fin k1_t1_loop.trips) : Fin 8 → FVec F S16 .f32
  | 0 => shapeCast S16 (View.readAt (Elt F) rowsV.view (Rect.unit (s := S512x128) (k1_off2 k) S1x16.size (k1_off2_inb k)).toLoadRect f) shapeCasts_S1x16_S16
  | 1 => shapeCast S16 (View.readAt (Elt F) rowsV.view (Rect.unit (s := S512x128) (k1_off3 k) S1x16.size (k1_off3_inb k)).toLoadRect f) shapeCasts_S1x16_S16
  | 2 => shapeCast S16 (View.readAt (Elt F) rowsV.view (Rect.unit (s := S512x128) (k1_off4 k) S1x16.size (k1_off4_inb k)).toLoadRect f) shapeCasts_S1x16_S16
  | 3 => shapeCast S16 (View.readAt (Elt F) rowsV.view (Rect.unit (s := S512x128) (k1_off5 k) S1x16.size (k1_off5_inb k)).toLoadRect f) shapeCasts_S1x16_S16
  | 4 => shapeCast S16 (View.readAt (Elt F) rowsV.view (Rect.unit (s := S512x128) (k1_off6 k) S1x16.size (k1_off6_inb k)).toLoadRect f) shapeCasts_S1x16_S16
  | 5 => shapeCast S16 (View.readAt (Elt F) rowsV.view (Rect.unit (s := S512x128) (k1_off7 k) S1x16.size (k1_off7_inb k)).toLoadRect f) shapeCasts_S1x16_S16
  | 6 => shapeCast S16 (View.readAt (Elt F) rowsV.view (Rect.unit (s := S512x128) (k1_off8 k) S1x16.size (k1_off8_inb k)).toLoadRect f) shapeCasts_S1x16_S16
  | 7 => shapeCast S16 (View.readAt (Elt F) rowsV.view (Rect.unit (s := S512x128) (k1_off9 k) S1x16.size (k1_off9_inb k)).toLoadRect f) shapeCasts_S1x16_S16

/-- One trip: the rows scratch is read and kept, row `k` of the output scratch is stored with `rowLanes`. -/
theorem trip (d : Dev nD) (L : grid1.Coords) (b : FVec F S16 .f32) (w : Fin 10 → Fin 8 → FVec F S16 .f32)
    (u : Fin 9 → FVec F S16 .f32) (u9 : Vec F S1x16 .f32) (c : Fin 10 → Vec F S1x16 .f32) (k : Fin k1_t1_loop.trips)
    (f : Buf (Elt F) (rowsV.view.loc (tile d L))) (g : Buf (Elt F) (outV.view.loc (tile d L))) :
    (iprop((rowsV.view.loc (tile d L) ↦{fullShare} f) ∗ (outV.view.loc (tile d L) ↦{fullShare} g)) : sProp (RA₀ F))
      ⊢ wp frame (wpE (defs₀ (F := F)) 𝒱₀ (tile d L) none) Set.univ (tripBody L b w u u9 c k ())
          fun _ => iprop((rowsV.view.loc (tile d L) ↦{fullShare} f)
            ∗ (outV.view.loc (tile d L) ↦{fullShare} outV.view.writes (Elt F) g
                [⟨Rect.unit (s := S512x16) (k1_off10 k) S1x16.size (k1_off10_inb k),
                  shapeCast S1x16 (rowLanes b (chunk f k) w (fun j => shapeCast S16 (c j) shapeCasts_S1x16_S16)
                    (Fin.lastCases (shapeCast S16 u9 shapeCasts_S1x16_S16) u)) shapeCasts_S16_S1x16⟩])) := by
  unfold tripBody k1_t1_body
  iintro ⟨Hr, Ho⟩
  sl_exec
  sl_step
  isplitl [Hr]; · iexact Hr
  iexact Ho

end Cert.Proof

end
-- ==== Proof.RowValue.lean ====
/-
  What the SparseCore call leaves in its output, as a function of the arrays it reads; and the loads, the gather and the
  stores of one tile read at an index.
-/
module

public import proofs.«01_k».proof.Proof.Trip
public import Idealize.ShloMosaic.Lib.ValueIdx
public import Idealize.ShloMosaic.Lib.Pipeline.Value

@[expose] public section

noncomputable section

namespace Cert.Proof

open Cert.KernelIdeal Cert.KernelIdeal.Gen
open Idealize.ShloMosaic Idealize.ShloMosaic.ValueIdx
open Idealize.SL.Sem

variable {F : FTy → Type} [FloatOps F]

/-- Lane `l` of chunk `n`, as a column of a 128-column array. -/
def col (n : Fin 8) (l : S16.Idx) : Fin 128 :=
  ⟨16 * n.val + (l 0).val, by have h : (l 0).val < 16 := (l 0).isLt; have := n.isLt; omega⟩

/-- The table's row an index word names. -/
def rowOf (w : BitVec 32) : Fin 100000 := ⟨w.toNat % 100000, Nat.mod_lt _ (by norm_num)⟩

/-- The sixteen lanes of output computed from one embedding row `e`. -/
def lanesOf (e : Fin 128 → F .f32) (c1 : S16x16.Idx → F .f32) (w1 : S10x128.Idx → F .f32) (w2 : S10x16.Idx → F .f32)
    (b2 : S16.Idx → F .f32) : FVec F S16 .f32 :=
  rowLanes b2 (fun n l => e (col n l)) (fun j n l => w1 (ix2 j (col n l))) (fun j l => c1 (ix2 (j.castLE (by decide)) (l 0)))
    (fun j l => w2 (ix2 j (l 0)))

/-- The output: row `r` is computed from the table's row that index `r` names. -/
def outRows (ids : S16384.Idx → Elt F .i32) (tab : S100000x128.Idx → F .f32) (c1 : S16x16.Idx → F .f32) (w1 : S10x128.Idx → F .f32)
    (w2 : S10x16.Idx → F .f32) (b2 : S16.Idx → F .f32) : S16384x16.Idx → F .f32 :=
  fun x => lanesOf (fun k => tab (ix2 (rowOf (ids (ix1 (x 0)))) k)) c1 w1 w2 b2 (ix1 (x 1))

/-- A one-row, sixteen-lane load of a two-axis array, cast to sixteen lanes, read at a lane. -/
theorem load16 {α : Type} {n m : ℕ} (g : (⟨2, ![n, m]⟩ : Shape).Idx → α) (off : Fin 2 → ℕ)
    (inb : ∀ a, off a + S1x16.size a ≤ (⟨2, ![n, m]⟩ : Shape).size a) (a : Fin n) (b : ℕ) (hb : b + 16 ≤ m) (ho : off = ![a.val, b]) :
    shapeCast S16 (fun x => g ((Rect.unit (s := ⟨2, ![n, m]⟩) off S1x16.size inb).emb x)) shapeCasts_S1x16_S16
      = fun l : S16.Idx => g (ix2 a ⟨b + (l 0).val, by have h : (l 0).val < 16 := (l 0).isLt; omega⟩) := by
  subst ho
  funext l
  refine (shapeCast_dropUnit_apply ![16] _ _ l).trans (congrArg g ?_)
  funext d
  match d with
  | ⟨0, _⟩ => exact Fin.ext (show a.val + 1 * 0 = a.val by omega)
  | ⟨1, _⟩ => exact Fin.ext (show b + 1 * (l 0).val = b + (l 0).val by omega)

/-- The loop makes 512 trips. -/
theorem trips_eq : k1_t1_loop.trips = 512 := by decide +kernel

/-- A trip's number as a row of the scratches. -/
abbrev rowIx (k : Fin k1_t1_loop.trips) : Fin 512 := k.cast trips_eq

/-- The chunks a trip loads are the sixteen-column pieces of its row. -/
theorem chunk_eq (f : S512x128.Idx → F .f32) (k : Fin k1_t1_loop.trips) (n : Fin 8) :
    chunk f k n = fun l => f (ix2 (rowIx k) (col n l)) := by
  match n with
  | 0 => exact load16 f (k1_off2 k) (k1_off2_inb k) (rowIx k) 0 (by norm_num) (k1_off2_eq k)
  | 1 => exact load16 f (k1_off3 k) (k1_off3_inb k) (rowIx k) 16 (by norm_num) (k1_off3_eq k)
  | 2 => exact load16 f (k1_off4 k) (k1_off4_inb k) (rowIx k) 32 (by norm_num) (k1_off4_eq k)
  | 3 => exact load16 f (k1_off5 k) (k1_off5_inb k) (rowIx k) 48 (by norm_num) (k1_off5_eq k)
  | 4 => exact load16 f (k1_off6 k) (k1_off6_inb k) (rowIx k) 64 (by norm_num) (k1_off6_eq k)
  | 5 => exact load16 f (k1_off7 k) (k1_off7_inb k) (rowIx k) 80 (by norm_num) (k1_off7_eq k)
  | 6 => exact load16 f (k1_off8 k) (k1_off8_inb k) (rowIx k) 96 (by norm_num) (k1_off8_eq k)
  | 7 => exact load16 f (k1_off9 k) (k1_off9_inb k) (rowIx k) 112 (by norm_num) (k1_off9_eq k)

/-- An element of the output scratch under one store reads the store's payload. -/
theorem out_hit (g : S512x16.Idx → Elt F .f32) (r : Rect S512x16) (w : r.shape.Idx → Elt F .f32) (x : r.shape.Idx) :
    outV.view.writes (Elt F) g [⟨r, w⟩] (r.emb x) = w x :=
  View.read_writes_cons_emb (Val := Elt F) (v := outV.view) (f := g) r w [] x

/-- An element of the output scratch outside one store keeps its value. -/
theorem out_miss (g : S512x16.Idx → Elt F .f32) (r : Rect S512x16) (w : r.shape.Idx → Elt F .f32) (y : S512x16.Idx) (hy : y ∉ r.set) :
    outV.view.writes (Elt F) g [⟨r, w⟩] y = g y :=
  View.read_writes_apply_of_forall_not_mem (Val := Elt F) (v := outV.view) (f := g) y [⟨r, w⟩] fun p hp => by
    rw [List.mem_singleton.mp hp]; exact hy

/-- Storing sixteen lanes at row `k` of the output scratch changes that row alone. -/
theorem stored (g : S512x16.Idx → F .f32) (k : Fin k1_t1_loop.trips) (v : FVec F S16 .f32) (y : S512x16.Idx) :
    outV.view.writes (Elt F) g [⟨Rect.unit (s := S512x16) (k1_off10 k) S1x16.size (k1_off10_inb k),
      shapeCast S1x16 v shapeCasts_S16_S1x16⟩] y = if (y 0).val = k.val then v (ix1 (y 1)) else g y := by
  have h00 : k1_off10 k 0 = k.val := congrFun (k1_off10_eq k) 0
  have h01 : k1_off10 k 1 = 0 := congrFun (k1_off10_eq k) 1
  have hmem : y ∈ (Rect.unit (s := S512x16) (k1_off10 k) S1x16.size (k1_off10_inb k)).set ↔ (y 0).val = k.val := by
    have h1 : (y 1).val < 16 := (y 1).isLt
    rw [Rect.mem_set_unit]
    constructor
    · intro h
      have h2 : k1_off10 k 0 ≤ (y 0).val ∧ (y 0).val < k1_off10 k 0 + 1 := h 0
      omega
    · intro h a
      match a with
      | ⟨0, _⟩ => exact (show k1_off10 k 0 ≤ (y 0).val ∧ (y 0).val < k1_off10 k 0 + 1 by omega)
      | ⟨1, _⟩ => exact (show k1_off10 k 1 ≤ (y 1).val ∧ (y 1).val < k1_off10 k 1 + 16 by omega)
  split
  · rename_i h
    obtain ⟨x, rfl⟩ : ∃ x, (Rect.unit (s := S512x16) (k1_off10 k) S1x16.size (k1_off10_inb k)).emb x = y :=
      LoadRect.exists_idx_of_mem _ (hmem.mpr h)
    refine (out_hit g _ _ x).trans ?_
    refine (shapeCast_addUnit_apply ![16] v _ x).trans (congrArg v ?_)
    funext d
    match d with
    | ⟨0, _⟩ => exact Fin.ext (show (x 1).val = k1_off10 k 1 + 1 * (x 1).val by omega)
  · rename_i h
    exact out_miss g _ _ y fun hm => h (hmem.mp hm)

/-- The first of a tile's rows. -/
def base (L : grid1.Coords) : ℕ := 1024 * (L 1).val + 512 * (L 0).val

/-- A tile's rows end within the output. -/
theorem base_le (L : grid1.Coords) : base L + 512 ≤ 16384 := by
  have h0 : (L 0).val < 2 := (L 0).isLt
  have h1 : (L 1).val < 16 := (L 1).isLt
  unfold base; omega

/-- Row `r` of a tile, as a row of the whole arrays. -/
def glob (L : grid1.Coords) (r : Fin 512) : Fin 16384 := ⟨base L + r.val, by have := base_le L; omega⟩

/-- The tile's indices. -/
def myIds (L : grid1.Coords) (ids : S16384.Idx → Elt F .i32) : S512.Idx → Elt F .i32 := fun x => ids (ix1 (glob L (x 0)))

/-- The tile's gathered rows. -/
def myRows (L : grid1.Coords) (ids : S16384.Idx → Elt F .i32) (tab : S100000x128.Idx → F .f32) : S512x128.Idx → F .f32 :=
  fun x => tab (ix2 (rowOf (ids (ix1 (glob L (x 0))))) (x 1))

/-- The slice of the indices a tile fetches, read. -/
theorem ids_read (L : grid1.Coords) (ids : S16384.Idx → Elt F .i32) :
    (idsM.slice (Rect.unit (s := S16384) (k1_off1 L) S512.size (k1_off1_inb L)) (fun _ => rfl)).view.read (Elt F) ids = myIds L ids := by
  funext x
  refine congrArg ids ?_
  have h0 : k1_off1 L 0 = base L := congrFun (k1_off1_eq L) 0
  funext d
  match d with
  | ⟨0, _⟩ => exact Fin.ext (show k1_off1 L 0 + 1 * (x 0).val = base L + (x 0).val by omega)

/-- The indirect gather's payload over the tile's indices, all in range, is the tile's gathered rows. -/
theorem gather_eq (L : grid1.Coords) (ids : S16384.Idx → Elt F .i32) (tab : S100000x128.Idx → F .f32)
    (hn : S512.numel = S512x128.size gathers_S100000x128_S512x128.axis')
    (hin : ∀ x, (show BitVec 32 from myIds L ids x).toNat < S100000x128.size gathers_S100000x128_S512x128.axis) :
    SparseCore.gatherPayload (F := F) (e := .f32) gathers_S100000x128_S512x128
      ((tabM.slice (Rect.unit (s := S100000x128) ![0, 0] S100000x128.size inb_S100000x128_S100000x128_0_0) (fun _ => rfl)).view.read (Elt F) tab)
      (SparseCore.rows (F := F) (myIds L ids) hn hin) = myRows L ids tab := by
  funext x
  refine congrArg tab ?_
  have hx : S512.rowMajor.symm ((x 0).cast hn.symm) = ix1 (n := 512) (x 0) :=
    (Equiv.symm_apply_eq _).mpr (Fin.ext (Shape.rowMajor_val_one (d := ![512]) (ix1 (n := 512) (x 0))).symm)
  have hlt : ∀ w : BitVec 32, w.toNat < 100000 → 0 + 1 * w.toNat = w.toNat % 100000 := fun w h => by rw [Nat.mod_eq_of_lt h]; omega
  have e : (0 + 1 * (show BitVec 32 from myIds L ids (S512.rowMajor.symm ((x 0).cast hn.symm))).toNat)
      = (show BitVec 32 from myIds L ids (ix1 (n := 512) (x 0))).toNat % 100000 :=
    (congrArg (fun y => 0 + 1 * (show BitVec 32 from myIds L ids y).toNat) hx).trans (hlt _ (hin (ix1 (n := 512) (x 0))))
  funext d
  match d with
  | ⟨0, _⟩ => exact Fin.ext e
  | ⟨1, _⟩ => exact Fin.ext (show 0 + 1 * (x 1).val = (x 1).val by omega)

end Cert.Proof

end
-- ==== Proof.Loop.lean ====
/-
  The SparseCore loop's invariant and one trip of it: the values the loop reads from the tile's scratches, gathered into
  families over the hidden unit and the chunk, and the rows of the output scratch already computed.
-/
module

public import proofs.«01_k».proof.Proof.RowValue

@[expose] public section

noncomputable section

namespace Cert.Proof

open Cert.KernelIdeal Cert.KernelIdeal.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type} [FloatOps F]

/-- A chunk of the first layer's weights lies inside their buffer. -/
theorem inb_w1 (j : Fin 10) (n : Fin 8) (a : Fin 2) : (![j.val, 16 * n.val] : Fin 2 → ℕ) a + S1x16.size a ≤ S10x128.size a := by
  match a with
  | 0 => exact (show j.val + 1 ≤ 10 by omega)
  | 1 => exact (show 16 * n.val + 16 ≤ 128 by omega)

/-- A row of the second layer's weights lies inside their buffer. -/
theorem inb_w2 (j : Fin 10) (a : Fin 2) : (![j.val, 0] : Fin 2 → ℕ) a + S1x16.size a ≤ S10x16.size a := by
  match a with
  | 0 => exact (show j.val + 1 ≤ 10 by omega)
  | 1 => exact (show 0 + 16 ≤ 16 by omega)

/-- A row of the prompt's share lies inside its buffer. -/
theorem inb_c1 (j : Fin 10) (a : Fin 2) : (![j.val, 0] : Fin 2 → ℕ) a + S1x16.size a ≤ S16x16.size a := by
  match a with
  | 0 => exact (show j.val + 1 ≤ 16 by omega)
  | 1 => exact (show 0 + 16 ≤ 16 by omega)

/-- Chunk `n` of unit `j`'s first-layer row, loaded from the scratch held at `x`. -/
def w1At (x : S10x128.Idx → F .f32) (j : Fin 10) (n : Fin 8) : FVec F S16 .f32 :=
  shapeCast S16 (View.readAt (Elt F) w1V.view (Rect.unit (s := S10x128) ![j.val, 16 * n.val] S1x16.size (inb_w1 j n)).toLoadRect x) shapeCasts_S1x16_S16

/-- Unit `j`'s second-layer row, loaded from the scratch held at `x`. -/
def w2At (x : S10x16.Idx → F .f32) (j : Fin 10) : Vec F S1x16 .f32 :=
  View.readAt (Elt F) w2V.view (Rect.unit (s := S10x16) ![j.val, 0] S1x16.size (inb_w2 j)).toLoadRect x

/-- Unit `j`'s prompt half, loaded from the scratch held at `x`. -/
def c1At (x : S16x16.Idx → F .f32) (j : Fin 10) : Vec F S1x16 .f32 :=
  View.readAt (Elt F) c1V.view (Rect.unit (s := S16x16) ![j.val, 0] S1x16.size (inb_c1 j)).toLoadRect x

/-- The bias, loaded from the scratch held at `x`. -/
def b2At (x : S16.Idx → F .f32) : FVec F S16 .f32 :=
  shapeCast S16 (View.readAt (Elt F) b2V.view (Rect.unit (s := S16) ![0] S16.size inb_S16_S16_0).toLoadRect x) shapeCasts_S16_S16

/-- A loaded chunk of the first layer's weights, at a lane. -/
theorem w1At_eq (x : S10x128.Idx → F .f32) (j : Fin 10) (n : Fin 8) : w1At x j n = fun l => x (ix2 j (col n l)) :=
  load16 x _ (inb_w1 j n) j (16 * n.val) (by omega) rfl

/-- A loaded row of the second layer's weights, at a lane. -/
theorem w2At_eq (x : S10x16.Idx → F .f32) (j : Fin 10) : shapeCast S16 (w2At x j) shapeCasts_S1x16_S16 = fun l : S16.Idx => x (ix2 j (l 0)) := by
  refine (load16 x _ (inb_w2 j) j 0 (by omega) rfl).trans ?_
  funext l
  exact congrArg (fun k => x (ix2 j k)) (Fin.ext (show 0 + (l 0).val = (l 0).val by omega))

/-- A loaded row of the prompt's share, at a lane. -/
theorem c1At_eq (x : S16x16.Idx → F .f32) (j : Fin 10) :
    shapeCast S16 (c1At x j) shapeCasts_S1x16_S16 = fun l : S16.Idx => x (ix2 (j.castLE (by decide)) (l 0)) := by
  refine (load16 x _ (inb_c1 j) (j.castLE (by decide)) 0 (by omega) rfl).trans ?_
  funext l
  exact congrArg (fun k => x (ix2 (j.castLE (by decide)) k)) (Fin.ext (show 0 + (l 0).val = (l 0).val by omega))

/-- The loaded bias is the bias. -/
theorem b2At_eq (x : S16.Idx → F .f32) : b2At x = x := by
  unfold b2At
  refine (shapeCast_self (s := S16) (α := F .f32) _ _).trans ?_
  funext l
  refine congrArg x ?_
  funext d
  match d with
  | ⟨0, _⟩ => exact Fin.ext (show 0 + 1 * (l 0).val = (l 0).val by omega)

/-- The lanes a trip stores, over the scratches' contents. -/
theorem trip_value (f : S512x128.Idx → F .f32) (c1 : S16x16.Idx → F .f32) (w1 : S10x128.Idx → F .f32) (w2 : S10x16.Idx → F .f32)
    (b2 : S16.Idx → F .f32) (k : Fin k1_t1_loop.trips) :
    rowLanes (b2At b2) (chunk f k) (w1At w1) (fun j => shapeCast S16 (c1At c1 j) shapeCasts_S1x16_S16)
        (Fin.lastCases (shapeCast S16 (w2At w2 9) shapeCasts_S1x16_S16) fun j : Fin 9 => shapeCast S16 (w2At w2 j.castSucc) shapeCasts_S1x16_S16)
      = lanesOf (fun i => f (ix2 (rowIx k) i)) c1 w1 w2 b2 := by
  have hu : (Fin.lastCases (shapeCast S16 (w2At w2 9) shapeCasts_S1x16_S16) fun j : Fin 9 => shapeCast S16 (w2At w2 j.castSucc) shapeCasts_S1x16_S16
      : Fin 10 → FVec F S16 .f32) = fun j l => w2 (ix2 j (l 0)) := by
    funext j
    refine Fin.lastCases ?_ (fun i => ?_) j
    · rw [Fin.lastCases_last]; exact w2At_eq w2 9
    · rw [Fin.lastCases_castSucc]; exact w2At_eq w2 i.castSucc
  rw [hu, b2At_eq, show chunk f k = fun n l => f (ix2 (rowIx k) (col n l)) from funext (chunk_eq f k),
    show w1At w1 = fun j n l => w1 (ix2 j (col n l)) from funext fun j => funext (w1At_eq w1 j),
    show (fun j => shapeCast S16 (c1At c1 j) shapeCasts_S1x16_S16) = fun j (l : S16.Idx) => c1 (ix2 (j.castLE (by decide)) (l 0)) from
      funext (c1At_eq c1)]
  rfl

/-- The output scratch's contents once every row is computed, from the gathered rows `R`. -/
def outAll (R : S512x128.Idx → F .f32) (c1 : S16x16.Idx → F .f32) (w1 : S10x128.Idx → F .f32) (w2 : S10x16.Idx → F .f32)
    (b2 : S16.Idx → F .f32) : S512x16.Idx → F .f32 :=
  fun y => lanesOf (fun k => R (ix2 (y 0) k)) c1 w1 w2 b2 (ix1 (y 1))

/-- The rows scratch once written whole. -/
theorem rows_whole (g w : S512x128.Idx → Elt F .f32) : rowsV.view.writes (Elt F) g [⟨Rect.whole S512x128, w⟩] = w := by
  funext x
  have h := View.read_writes_cons_emb (Val := Elt F) (v := rowsV.view) (f := g) (Rect.whole S512x128) w [] x
  rw [Rect.emb_whole_apply] at h
  exact h

/-- The tile's 512 rows of the output. -/
abbrev outK (L : grid1.Coords) : Memref sig .scVector .hbm S512x16 .f32 :=
  outM.slice (Rect.unit (s := S16384x16) (k1_off11 L) S512x16.size (k1_off11_inb L)) (fun _ => rfl)

/-- The tile's rows of the output, once its output scratch is copied there, are the output's. -/
theorem outK_written (L : grid1.Coords) (o : S16384x16.Idx → Elt F .f32) (g : S512x16.Idx → Elt F .f32) (ids : S16384.Idx → Elt F .i32)
    (tab : S100000x128.Idx → F .f32) (c1 : S16x16.Idx → F .f32) (w1 : S10x128.Idx → F .f32) (w2 : S10x16.Idx → F .f32) (b2 : S16.Idx → F .f32)
    (hg : ∀ y, g y = outAll (myRows L ids tab) c1 w1 w2 b2 y) :
    ∀ x ∈ (outK L).view.set, (outK L).view.writes (Elt F) o [⟨Rect.whole S512x16, g⟩] x = outRows ids tab c1 w1 w2 b2 x := by
  intro x hx
  obtain ⟨y, -, rfl⟩ := Finset.mem_map.mp hx
  have h := View.read_writes_cons_emb (Val := Elt F) (v := (outK L).view) (f := o) (Rect.whole S512x16) g [] y
  rw [Rect.emb_whole_apply] at h
  refine (show _ = g y from h).trans ((hg y).trans ?_)
  have h0 : k1_off11 L 0 = base L := congrFun (k1_off11_eq L) 0
  have h1 : k1_off11 L 1 = 0 := congrFun (k1_off11_eq L) 1
  have i0 : glob L (y 0) = (outK L).view.emb y 0 := Fin.ext (show base L + (y 0).val = k1_off11 L 0 + 1 * (y 0).val by omega)
  have i1 : y 1 = (outK L).view.emb y 1 := Fin.ext (show (y 1).val = k1_off11 L 1 + 1 * (y 1).val by omega)
  unfold outAll outRows myRows
  rw [← i0, ← i1]

/-- Before trip `t`: the rows scratch at `R`, and the output scratch's first `t` rows computed. -/
def inv (d : Dev nD) (L : grid1.Coords) (R : S512x128.Idx → F .f32) (c1 : S16x16.Idx → F .f32) (w1 : S10x128.Idx → F .f32)
    (w2 : S10x16.Idx → F .f32) (b2 : S16.Idx → F .f32) (t : ℕ) (_ : PUnit) : sProp (RA₀ F) :=
  iprop((rowsV.view.loc (tile d L) ↦{fullShare} R)
    ∗ ∃ g : S512x16.Idx → F .f32, ⌜∀ y : S512x16.Idx, (y 0).val < t → g y = outAll R c1 w1 w2 b2 y⌝ ∗ (outV.view.loc (tile d L) ↦{fullShare} g))

/-- One trip keeps the invariant, the scratches' contents known. -/
theorem inv_step (d : Dev nD) (L : grid1.Coords) (R : S512x128.Idx → F .f32) (c1 : S16x16.Idx → F .f32) (w1 : S10x128.Idx → F .f32)
    (w2 : S10x16.Idx → F .f32) (b2 : S16.Idx → F .f32) (k : Fin k1_t1_loop.trips) :
    inv d L R c1 w1 w2 b2 k.val PUnit.unit
      ⊢ wp frame (wpE (defs₀ (F := F)) 𝒱₀ (tile d L) none) Set.univ
          (tripBody L (b2At b2) (w1At w1) (fun j => shapeCast S16 (w2At w2 j.castSucc) shapeCasts_S1x16_S16) (w2At w2 9) (c1At c1) k ())
          fun _ => inv d L R c1 w1 w2 b2 (k.val + 1) PUnit.unit := by
  unfold inv
  iintro ⟨HR, %g, %hg, Hg⟩
  refine BI.Entails.trans ?_ ((trip d L (b2At b2) (w1At w1) (fun j => shapeCast S16 (w2At w2 j.castSucc) shapeCasts_S1x16_S16) (w2At w2 9)
    (c1At c1) k R g).trans (wp_mono _ _ _ fun _ => ?_))
  · exact BI.Entails.refl _
  iintro ⟨HR, Hg⟩
  isplitl [HR]; · iexact HR
  iexists _
  isplitr
  swap; · iexact Hg
  ipureintro
  intro y hy
  refine (stored g k _ y).trans ?_
  split
  · rename_i h
    rw [trip_value]
    have : rowIx k = y 0 := Fin.ext h.symm
    rw [this]; rfl
  · exact hg y (by omega)

end Cert.Proof

end
-- ==== Proof.Tile.lean ====
/-
  The task of one SparseCore tile: it fetches its 512 indices, gathers the table's rows they name, fetches the small
  operands, runs the 512 trips and copies its 512 rows of the output out.
-/
module

public import proofs.«01_k».proof.Proof.Loop

@[expose] public section

noncomputable section

namespace Cert.Proof

open Cert.KernelIdeal Cert.KernelIdeal.Gen
open Idealize.ShloMosaic
open Idealize.ShloMosaic.SparseCore (S V T)
open Idealize.ShloMosaic.SparseCore.Cfg (HIx ownSems0 ownBufs ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type}

section Own

variable (d : Dev nD) (L : grid1.Coords)

/-- The tile's DMA semaphore cell `s`. -/
abbrev dcell (d : Dev nD) (L : grid1.Coords) (s : DmaSems sig S_) : GSem nD τ sig := (tile d L, .dma s.sem)

/-- The cells of the seven semaphores the task uses, and the tile's other cells. -/
def sems : List (DmaSems sig S_) := [cc1_scratch7, cc1_scoped0, cc1_scoped1, cc1_scoped2, cc1_scoped3, cc1_scoped4, cc1_scoped5]

/-- The task's semaphores are the tile's own. -/
theorem sem_scoped (s : DmaSems sig S_) (hs : s ∈ sems) : (SemLoc.dma s.sem : SemLoc sig).isScoped .scVector = true := by
  simp only [sems, List.mem_cons, List.not_mem_nil, or_false] at hs
  rcases hs with rfl | rfl | rfl | rfl | rfl | rfl | rfl <;> decide

/-- The task's semaphores are among the tile's cells. -/
theorem mem_own (s : DmaSems sig S_) (hs : s ∈ sems) : dcell d L s ∈ ownCells (tile d L) :=
  (mem_ownCells (g := dcell d L s)).mpr ⟨rfl, sem_scoped s hs⟩

/-- A cell the tile owns, among those left once the cells of other semaphores are taken out. -/
theorem mem_erase_cell {s t : DmaSems sig S_} {A : Finset (GSem nD τ sig)} (hne : s.sem ≠ t.sem) (h : dcell d L s ∈ A) :
    dcell d L s ∈ A.erase (dcell d L t) :=
  Finset.mem_erase.mpr ⟨fun e => hne (by simpa [dcell] using e), h⟩

/-- The tile's own semaphores at zero: the seven the task uses, and the others. -/
theorem ownSems0_tile : ∃ R : sProp (RA₀ F), (ownSems0 (tile d L) : sProp (RA₀ F))
    = iprop(semVal (dcell d L cc1_scratch7) 0 ∗ semVal (dcell d L cc1_scoped0) 0 ∗ semVal (dcell d L cc1_scoped1) 0
        ∗ semVal (dcell d L cc1_scoped2) 0 ∗ semVal (dcell d L cc1_scoped3) 0 ∗ semVal (dcell d L cc1_scoped4) 0
        ∗ semVal (dcell d L cc1_scoped5) 0 ∗ R) := by
  unfold SparseCore.Cfg.ownSems0
  refine ⟨bigSep (sems.foldl (fun A s => A.erase (dcell d L s)) (ownCells (tile d L))) fun g => semVal g 0, ?_⟩
  rw [SparseCore.bigSep_erase' (mem_own d L cc1_scratch7 (by simp [sems])),
    SparseCore.bigSep_erase' (mem_erase_cell d L (t := cc1_scratch7) (by decide) (mem_own d L cc1_scoped0 (by simp [sems]))),
    SparseCore.bigSep_erase' (mem_erase_cell d L (t := cc1_scoped0) (by decide) <| mem_erase_cell d L (t := cc1_scratch7) (by decide)
      (mem_own d L cc1_scoped1 (by simp [sems]))),
    SparseCore.bigSep_erase' (mem_erase_cell d L (t := cc1_scoped1) (by decide) <| mem_erase_cell d L (t := cc1_scoped0) (by decide) <|
      mem_erase_cell d L (t := cc1_scratch7) (by decide) (mem_own d L cc1_scoped2 (by simp [sems]))),
    SparseCore.bigSep_erase' (mem_erase_cell d L (t := cc1_scoped2) (by decide) <| mem_erase_cell d L (t := cc1_scoped1) (by decide) <|
      mem_erase_cell d L (t := cc1_scoped0) (by decide) <| mem_erase_cell d L (t := cc1_scratch7) (by decide)
      (mem_own d L cc1_scoped3 (by simp [sems]))),
    SparseCore.bigSep_erase' (mem_erase_cell d L (t := cc1_scoped3) (by decide) <| mem_erase_cell d L (t := cc1_scoped2) (by decide) <|
      mem_erase_cell d L (t := cc1_scoped1) (by decide) <| mem_erase_cell d L (t := cc1_scoped0) (by decide) <|
      mem_erase_cell d L (t := cc1_scratch7) (by decide) (mem_own d L cc1_scoped4 (by simp [sems]))),
    SparseCore.bigSep_erase' (mem_erase_cell d L (t := cc1_scoped4) (by decide) <| mem_erase_cell d L (t := cc1_scoped3) (by decide) <|
      mem_erase_cell d L (t := cc1_scoped2) (by decide) <| mem_erase_cell d L (t := cc1_scoped1) (by decide) <|
      mem_erase_cell d L (t := cc1_scoped0) (by decide) <| mem_erase_cell d L (t := cc1_scratch7) (by decide)
      (mem_own d L cc1_scoped5 (by simp [sems])))]
  rfl

/-- Scratch buffer `b` as a buffer of the device. -/
abbrev dref (L : grid1.Coords) (b : Ref sig .scVector) : DevRef τ sig := (Proc.scVector (cV L) (jV L)).devRef b

/-- A buffer of the tile is among those left once another is taken out. -/
theorem mem_erase_ref {a b : Ref sig .scVector} {A : Finset (DevRef τ sig)} (hne : a ≠ b) (h : dref L a ∈ A) :
    dref L a ∈ A.erase (dref L b) :=
  Finset.mem_erase.mpr ⟨fun e => hne (Proc.devRef_injective _ e), h⟩

/-- A scratch buffer of the tile, at some contents. -/
abbrev someBuf (d : Dev nD) (L : grid1.Coords) (b : Ref sig .scVector) : sProp (RA₀ F) :=
  iprop(∃ f, (tile d L).loc b ↦{fullShare} f)

/-- The tile's own buffers: the seven scratches, at some contents, and the others. -/
theorem ownBufs_tile : ∃ R : sProp (RA₀ F), (ownBufs (tile d L) : sProp (RA₀ F))
    = iprop(someBuf d L cc1_scratch0 ∗ someBuf d L cc1_scratch1 ∗ someBuf d L cc1_scratch2 ∗ someBuf d L cc1_scratch3
        ∗ someBuf d L cc1_scratch4 ∗ someBuf d L cc1_scratch5 ∗ someBuf d L cc1_scratch6 ∗ R) := by
  unfold SparseCore.Cfg.ownBufs
  have hm : ∀ b : Ref sig .scVector, (dref L b).owner = .proc (.scVector (cV L) (jV L)) → dref L b ∈ ownRefs (τ := τ) (.scVector (cV L) (jV L)) :=
    fun b hb => SparseCore.Cfg.mem_ownRefs_of_owner (p := Proc.scVector (cV L) (jV L)) hb
  refine ⟨bigSep (([cc1_scratch0, cc1_scratch1, cc1_scratch2, cc1_scratch3, cc1_scratch4, cc1_scratch5, cc1_scratch6] : List (Ref sig .scVector)).foldl
    (fun A b => A.erase (dref L b)) (ownRefs (τ := τ) (.scVector (cV L) (jV L)))) fun b => iprop(∃ f, ((d, b) : Loc nD τ sig) ↦{fullShare} f), ?_⟩
  rw [SparseCore.bigSep_erase' (hm cc1_scratch0 rfl),
    SparseCore.bigSep_erase' (mem_erase_ref L (b := cc1_scratch0) (by decide) (hm cc1_scratch1 rfl)),
    SparseCore.bigSep_erase' (mem_erase_ref L (b := cc1_scratch1) (by decide) <| mem_erase_ref L (b := cc1_scratch0) (by decide)
      (hm cc1_scratch2 rfl)),
    SparseCore.bigSep_erase' (mem_erase_ref L (b := cc1_scratch2) (by decide) <| mem_erase_ref L (b := cc1_scratch1) (by decide) <|
      mem_erase_ref L (b := cc1_scratch0) (by decide) (hm cc1_scratch3 rfl)),
    SparseCore.bigSep_erase' (mem_erase_ref L (b := cc1_scratch3) (by decide) <| mem_erase_ref L (b := cc1_scratch2) (by decide) <|
      mem_erase_ref L (b := cc1_scratch1) (by decide) <| mem_erase_ref L (b := cc1_scratch0) (by decide) (hm cc1_scratch4 rfl)),
    SparseCore.bigSep_erase' (mem_erase_ref L (b := cc1_scratch4) (by decide) <| mem_erase_ref L (b := cc1_scratch3) (by decide) <|
      mem_erase_ref L (b := cc1_scratch2) (by decide) <| mem_erase_ref L (b := cc1_scratch1) (by decide) <|
      mem_erase_ref L (b := cc1_scratch0) (by decide) (hm cc1_scratch5 rfl)),
    SparseCore.bigSep_erase' (mem_erase_ref L (b := cc1_scratch5) (by decide) <| mem_erase_ref L (b := cc1_scratch4) (by decide) <|
      mem_erase_ref L (b := cc1_scratch3) (by decide) <| mem_erase_ref L (b := cc1_scratch2) (by decide) <|
      mem_erase_ref L (b := cc1_scratch1) (by decide) <| mem_erase_ref L (b := cc1_scratch0) (by decide) (hm cc1_scratch6 rfl))]
  rfl

end Own

section Task

variable [FloatOps F] (d : Dev nD) (L : grid1.Coords)

/-- The kernel at the tile. -/
abbrev taskProg (L : grid1.Coords) : Prog (TpuEff nD τ sig (Elt F) Λ₀ (.scVector (cV L) (jV L))) PUnit :=
  cc1_fused_kernel (F := F) L tabM (Memref.isWhole_whole _) idsM (Memref.isWhole_whole _) c1M (Memref.isWhole_whole _)
    w1M (Memref.isWhole_whole _) w2M (Memref.isWhole_whole _) b2M (Memref.isWhole_whole _) outM (Memref.isWhole_whole _)
    idsV (Memref.isWhole_whole _) rowsV (Memref.isWhole_whole _) outV (Memref.isWhole_whole _) c1V (Memref.isWhole_whole _)
    w1V (Memref.isWhole_whole _) w2V (Memref.isWhole_whole _) b2V (Memref.isWhole_whole _)
    cc1_scratch7 cc1_scoped0 cc1_scoped1 cc1_scoped2 cc1_scoped3 cc1_scoped4 cc1_scoped5

/-- What the task is handed: read shares of the indices, the table and the small operands, and its rows of the output. -/
def goT (q : PosShare TreeShare) (ids : S16384.Idx → Elt F .i32) (tab : S100000x128.Idx → F .f32) (c1 : S16x16.Idx → F .f32)
    (w1 : S10x128.Idx → F .f32) (w2 : S10x16.Idx → F .f32) (b2 : S16.Idx → F .f32) (o : S16384x16.Idx → F .f32) : sProp (RA₀ F) :=
  iprop((idsM.view.loc (tile d L) ↦{q} ids) ∗ (tabM.view.loc (tile d L) ↦{q} tab) ∗ (c1M.view.loc (tile d L) ↦{q} c1)
    ∗ (w1M.view.loc (tile d L) ↦{q} w1) ∗ (w2M.view.loc (tile d L) ↦{q} w2) ∗ (b2M.view.loc (tile d L) ↦{q} b2)
    ∗ ((outK L).view.loc (tile d L) ↦[(outK L).view.set]{fullShare} o))

set_option maxHeartbeats 4000000 in
/-- One tile's task, for indices in range: it ends with its 512 rows of the output holding the result's rows, and its own
    semaphores at zero. -/
theorem tile_body (hF : (K (F := F)).Facts) (q : PosShare TreeShare) (ids : S16384.Idx → Elt F .i32) (tab : S100000x128.Idx → F .f32)
    (c1 : S16x16.Idx → F .f32) (w1 : S10x128.Idx → F .f32) (w2 : S10x16.Idx → F .f32) (b2 : S16.Idx → F .f32) (o : S16384x16.Idx → F .f32)
    (hids : ∀ x, (show BitVec 32 from ids x).toNat < 100000)
    (O : CellTallies nD τ sig (HIx 1)) (W : Waits sig (HIx 1)) (hO : ∀ g, O g none = 0) :
    iprop(levAts (K (F := F)).L (K (F := F)).lev ∗ emp ∗ goT d L q ids tab c1 w1 w2 b2 o
        ∗ scopedBufs (tile d L) ∗ scopedSems0 (tile d L) ∗ owes (tile d L) O W)
      ⊢ wp frame (wpE (defs₀ (F := F)) 𝒱₀ (tile d L) none) Set.univ (taskProg (F := F) L)
          fun _ => iprop(((outK L).view.loc (tile d L) ↦[(outK L).view.set]{fullShare} outRows ids tab c1 w1 w2 b2)
            ∗ scopedBufs (tile d L) ∗ scopedSems0 (tile d L)
            ∗ ∃ W', ⌜∀ p ∈ W', p ∈ W ∨ p.2 = none⌝ ∗ owes (tile d L) O W') := by
  obtain ⟨RS, hRS⟩ := ownSems0_tile (F := F) d L
  obtain ⟨RB, hRB⟩ := ownBufs_tile (F := F) d L
  unfold taskProg goT
  rw [cc1_fused_kernel_eq_skeleton]; unfold cc1_fused_kernel_skel
  rw [(K (F := F)).scopedBufs_V hF d (cV L) (jV L), SparseCore.Cfg.scopedSems0_V (Val := Elt F) d (cV L) (jV L), hRS, hRB]
  iintro ⟨#Hlv, -, ⟨Hids, Htab, Hc1, Hw1, Hw2, Hb2, Ho⟩, ⟨⟨%f0, H0⟩, ⟨%f1, H1⟩, ⟨%f2, H2⟩, ⟨%f3, H3⟩, ⟨%f4, H4⟩, ⟨%f5, H5⟩, ⟨%f6, H6⟩, Hbufs⟩,
    ⟨S7, S0, S1, S2, S3, S4, S5, Hsems⟩, HO⟩
  ihave Hmw := (show levAts (K (F := F)).L (K (F := F)).lev ⊢ Transfers.MayWaits (tile d L) (default : HIx 1) O from
    (K (F := F)).mayWaits_none (thr := tile d L) hO) $$ Hlv
  ihave H0 := (show ((tile d L).loc cc1_scratch0 ↦{fullShare} f0 : sProp (RA₀ F)) ⊢ idsV.view.loc (tile d L) ↦{fullShare} f0 from BI.Entails.refl _) $$ H0
  ihave H1 := (show ((tile d L).loc cc1_scratch1 ↦{fullShare} f1 : sProp (RA₀ F)) ⊢ rowsV.view.loc (tile d L) ↦{fullShare} f1 from BI.Entails.refl _) $$ H1
  ihave H2 := (show ((tile d L).loc cc1_scratch2 ↦{fullShare} f2 : sProp (RA₀ F)) ⊢ outV.view.loc (tile d L) ↦{fullShare} f2 from BI.Entails.refl _) $$ H2
  ihave H3 := (show ((tile d L).loc cc1_scratch3 ↦{fullShare} f3 : sProp (RA₀ F)) ⊢ c1V.view.loc (tile d L) ↦{fullShare} f3 from BI.Entails.refl _) $$ H3
  ihave H4 := (show ((tile d L).loc cc1_scratch4 ↦{fullShare} f4 : sProp (RA₀ F)) ⊢ w1V.view.loc (tile d L) ↦{fullShare} f4 from BI.Entails.refl _) $$ H4
  ihave H5 := (show ((tile d L).loc cc1_scratch5 ↦{fullShare} f5 : sProp (RA₀ F)) ⊢ w2V.view.loc (tile d L) ↦{fullShare} f5 from BI.Entails.refl _) $$ H5
  ihave H6 := (show ((tile d L).loc cc1_scratch6 ↦{fullShare} f6 : sProp (RA₀ F)) ⊢ b2V.view.loc (tile d L) ↦{fullShare} f6 from BI.Entails.refl _) $$ H6
  have hin : ∀ x : S512.Idx, BitVec.toNat (View.read (Elt F) idsV.view (myIds L ids) x) < S100000x128.size gathers_S100000x128_S512x128.axis :=
    fun x => hids _
  sl_exec
  ihave H0 := (Entails.of_eq (congrArg (fun f => (idsV.view.loc (tile d L) ↦{fullShare} f : sProp (RA₀ F)))
    ((View.write_whole_univ _ _ _).trans (ids_read L ids)))) $$ H0
  sl_exec
  have e1 : rowsV.view.writes (Elt F) rowsV.view.junk [⟨Rect.whole S512x128, tile_body.sl.gather0 L ids tab hin⟩] = myRows L ids tab :=
    (rows_whole _ _).trans (gather_eq L ids tab _ hin)
  have e3 : View.write (Elt F) c1V.view f3 (tile_body.sl.dma0_1 c1) Finset.univ = c1 := View.write_whole_univ _ _ _
  have e4 : View.write (Elt F) w1V.view f4 (tile_body.sl.dma0_2 w1) Finset.univ = w1 := View.write_whole_univ _ _ _
  have e5 : View.write (Elt F) w2V.view f5 (tile_body.sl.dma0_3 w2) Finset.univ = w2 := View.write_whole_univ _ _ _
  have e6 : View.write (Elt F) b2V.view f6 (tile_body.sl.dma0_4 b2) Finset.univ = b2 := View.write_whole_univ _ _ _
  sl_for (inv d L (myRows L ids tab) (View.write (Elt F) c1V.view f3 (tile_body.sl.dma0_1 c1) Finset.univ)
    (View.write (Elt F) w1V.view f4 (tile_body.sl.dma0_2 w1) Finset.univ) (View.write (Elt F) w2V.view f5 (tile_body.sl.dma0_3 w2) Finset.univ)
    (View.write (Elt F) b2V.view f6 (tile_body.sl.dma0_4 b2) Finset.univ)) $$ [H1 H2]
  case region =>
    intro k _
    exact inv_step d L (myRows L ids tab) _ _ _ _ k
  · unfold inv
    isplitl [H1]
    · rw [← e1]; iexact H1
    · iexists f2; isplitr
      · ipureintro; intro y hy; exact absurd hy (Nat.not_lt_zero _)
      · iexact H2
  iintro %_ HI
  unfold inv
  icases HI with ⟨H1, %g, %hg, H2⟩
  sl_exec
  sl_step
  have eo : ∀ x ∈ (outK L).view.set, (outK L).view.writes (Elt F) o [⟨Rect.whole S512x16, tile_body.sl.dma0_5 g⟩] x
      = outRows ids tab c1 w1 w2 b2 x := by
    rw [e3, e4, e5, e6] at hg
    refine outK_written L o g ids tab c1 w1 w2 b2 fun y => hg y ?_
    exact lt_of_lt_of_eq (y 0).isLt trips_eq.symm
  isplitl [Ho]
  · ihave Ho := (Entails.of_eq (pointsTo_congr eo)) $$ Ho
    iexact Ho
  isplitl [H0 H1 H2 H3 H4 H5 H6 Hbufs]
  · isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    iexact Hbufs
  isplitl [S0 S1 S2 S3 S4 S5 S7 Hsems]
  · isplitl [S7]; · iexact S7
    isplitl [S0]; · iexact S0
    isplitl [S1]; · iexact S1
    isplitl [S2]; · iexact S2
    isplitl [S3]; · iexact S3
    isplitl [S4]; · iexact S4
    isplitl [S5]; · iexact S5
    iexact Hsems
  iexists _; isplitr
  swap; · iexact HO
  ipureintro
  intro p hp
  simp only [Finset.mem_insert] at hp
  rcases hp with h | h | h | h | h | h | h | h
  all_goals first | exact .inl h | exact .inr (h ▸ rfl)

end Task

end Cert.Proof

end
-- ==== Proof.Host.lean ====
/-
  @main as three lines of host operations around its two calls, and what the device's buffers hold between them: the
  contents each call is entered with and, at the end, the result.
-/
module

public import proofs.«01_k».proof.Proof.Region
public import proofs.«01_k».proof.Proof.Tile

@[expose] public section

noncomputable section

namespace Cert.Proof

open Cert.KernelIdeal Cert.KernelIdeal.Gen
open Idealize.ShloMosaic Idealize.ShloMosaic.TcCoe
open Idealize.SL Idealize.SL.RA Idealize.SL.BI Idealize.SL.Sem

variable {F : FTy → Type} [FloatOps F]

abbrev Ops (F : FTy → Type) := List (HloOp τ sig (Elt F))

/-- The operations before the TensorCore call: its five operands. -/
def ops1 : Ops F :=
  [ StableHlo.unary main_arg1 main_v0 (broadcastInDim S1x1536 ![1] bcast_S1536_S1x1536_1 : (⟨S1536, .f32⟩ : BufTy).Contents (Elt F) → (⟨S1x1536, .f32⟩ : BufTy).Contents (Elt F)),
    StableHlo.unary main_arg2 main_v1 ((transpose S1536x128 [1, 0] · transposes_S128x1536_S1536x128_1_0) : (⟨S128x1536, .f32⟩ : BufTy).Contents (Elt F) → (⟨S1536x128, .f32⟩ : BufTy).Contents (Elt F)),
    StableHlo.unary main_arg3 main_v2 (broadcastInDim S1x128 ![1] bcast_S128_S1x128_1 : (⟨S128, .f32⟩ : BufTy).Contents (Elt F) → (⟨S1x128, .f32⟩ : BufTy).Contents (Elt F)),
    StableHlo.unary main_arg5 main_v3 ((extractStridedSlice S10x128 ![0, 128] · slices_S10x256_S10x128_0_128) : (⟨S10x256, .f32⟩ : BufTy).Contents (Elt F) → (⟨S10x128, .f32⟩ : BufTy).Contents (Elt F)),
    StableHlo.unary main_v3 main_v4 ((transpose S128x10 [1, 0] · transposes_S10x128_S128x10_1_0) : (⟨S10x128, .f32⟩ : BufTy).Contents (Elt F) → (⟨S128x10, .f32⟩ : BufTy).Contents (Elt F)),
    StableHlo.nullary main_c (constantI S_ 32 0#32),
    StableHlo.TRef.unary (.of main_c) main_call0.v0 (sitofp .f32),
    StableHlo.TRef.binary (.of main_v4 : StableHlo.TRef sig ⟨S128x10, .f32⟩) main_call0.v0 main_call0.v1 (fun x v => pad S128x16 ![0, 0] ![0, 6] ![0, 0] x v pads_S128x10_S128x16_000_060 h_S_),
    StableHlo.unary main_arg6 main_v6 (broadcastInDim S1x10 ![1] bcast_S10_S1x10_1 : (⟨S10, .f32⟩ : BufTy).Contents (Elt F) → (⟨S1x10, .f32⟩ : BufTy).Contents (Elt F)),
    StableHlo.nullary main_c_0 (constantI S_ 32 0#32),
    StableHlo.TRef.unary (.of main_c_0) main_call1.v0 (sitofp .f32),
    StableHlo.TRef.binary (.of main_v6 : StableHlo.TRef sig ⟨S1x10, .f32⟩) main_call1.v0 main_call1.v1 (fun x v => pad S1x16 ![0, 0] ![0, 6] ![0, 0] x v pads_S1x10_S1x16_000_060 h_S_) ]

/-- The operations between the two calls: the SparseCore's small operands. -/
def ops2 : Ops F :=
  [ StableHlo.unary main_arg7 main_v9 ((transpose S10x10 [1, 0] · transposes_S10x10_S10x10_1_0) : (⟨S10x10, .f32⟩ : BufTy).Contents (Elt F) → (⟨S10x10, .f32⟩ : BufTy).Contents (Elt F)),
    StableHlo.nullary main_c_1 (constantI S_ 32 0#32),
    StableHlo.TRef.unary (.of main_c_1) main_call2.v0 (sitofp .f32),
    StableHlo.TRef.binary (.of main_v9 : StableHlo.TRef sig ⟨S10x10, .f32⟩) main_call2.v0 main_call2.v1 (fun x v => pad S10x16 ![0, 0] ![0, 6] ![0, 0] x v pads_S10x10_S10x16_000_060 h_S_),
    StableHlo.nullary main_c_2 (constantI S_ 32 0#32),
    StableHlo.TRef.unary (.of main_c_2) main_call3.v0 (sitofp .f32),
    StableHlo.TRef.binary (.of main_arg8 : StableHlo.TRef sig ⟨S10, .f32⟩) main_call3.v0 main_call3.v1 (fun x v => pad S16 ![0] ![6] ![0] x v pads_S10_S16_060 h_S_),
    StableHlo.unary main_arg5 main_v12 ((extractStridedSlice S10x128 ![0, 0] · slices_S10x256_S10x128_0_0) : (⟨S10x256, .f32⟩ : BufTy).Contents (Elt F) → (⟨S10x128, .f32⟩ : BufTy).Contents (Elt F)) ]

/-- The operation after the SparseCore call: the result's ten columns. -/
def ops3 : Ops F :=
  [ StableHlo.unary main_v13 main_v14 ((extractStridedSlice S16384x10 ![0, 0] · slices_S16384x16_S16384x10_0_0) : (⟨S16384x16, .f32⟩ : BufTy).Contents (Elt F) → (⟨S16384x10, .f32⟩ : BufTy).Contents (Elt F)) ]

/-- @main is the three lines around the two calls. -/
theorem main_eq (d : Dev nD) : main (F := F) d = StableHlo.seq ops1 >>= fun _ =>
    (Prog.lift (.customCall (SparseCore.inner (Pipeline.entry 0)) ()) >>= fun _ =>
    (StableHlo.seq ops2 >>= fun _ => (sc (F := F)).run d 0 >>= fun _ => StableHlo.seq ops3)) := rfl

variable (m : (ℓ : Loc nD τ sig) → Buf (Elt F) ℓ) (d : Dev nD)

/-- A TensorCore buffer as the device names it. -/
abbrev dr (b : Ref sig .tc) : DevRef τ sig := Proc.devRef .tc b

/-- The device's buffers at the launch; before the TensorCore call; after it. -/
def V0 : Valuation τ sig (Elt F) := fun b => m (d, b)
def V1 : Valuation τ sig (Elt F) := StableHlo.after ops1 (V0 m d)
def c1Of : S16x16.Idx → Elt F .f32 := c1Array (fun c b => V1 m c (dr b)) d
def V2 : Valuation τ sig (Elt F) := Function.update (V1 m d) (dr main_v8) (c1Of m d)

/-- Before the SparseCore call; after it, the output's rows as the tiles leave them; at the end. -/
def V3 : Valuation τ sig (Elt F) := StableHlo.after ops2 (V2 m d)
def idsOf : S16384.Idx → Elt F .i32 := V3 m d (dr main_arg0)
def tabOf : S100000x128.Idx → F .f32 := V3 m d (dr main_arg4)
def c1In : S16x16.Idx → F .f32 := V3 m d (dr main_v8)
def w1Of : S10x128.Idx → F .f32 := V3 m d (dr main_v12)
def w2Of : S10x16.Idx → F .f32 := V3 m d (dr main_v10)
def b2Of : S16.Idx → F .f32 := V3 m d (dr main_v11)
def oOf : S16384x16.Idx → F .f32 := V3 m d (dr main_v13)
def resOf : S16384x16.Idx → F .f32 := outRows (idsOf m d) (tabOf m d) (c1In m d) (w1Of m d) (w2Of m d) (b2Of m d)
def V4 : Valuation τ sig (Elt F) := Function.update (V3 m d) (dr main_v13) (resOf m d)
def V5 : Valuation τ sig (Elt F) := StableHlo.after ops3 (V4 m d)

/-! ## What the lines write -/

abbrev W1 : List (Ref sig .tc) := [main_v0, main_v1, main_v2, main_v3, main_v4, main_c, main_call0_v0, main_v5, main_v6, main_c_0, main_call1_v0, main_v7]
abbrev W2 : List (Ref sig .tc) := [main_v9, main_c_1, main_call2_v0, main_v10, main_c_2, main_call3_v0, main_v11, main_v12]
abbrev W3 : List (Ref sig .tc) := [main_v14]

/-- The first host lines leave every buffer that they don't write. -/
theorem V1_frame (r : Ref sig .tc) (h : r ∉ W1) : V1 m d (dr r) = m (d, dr r) :=
  StableHlo.after_of_writes_sub ops1 (V0 m d) (StableHlo.forall_writes_sub_of_map (W := W1) rfl) h
/-- The TensorCore call leaves every buffer but its result. -/
theorem V2_frame (r : Ref sig .tc) (h : r ≠ main_v8) : V2 m d (dr r) = V1 m d (dr r) :=
  Function.update_of_ne (StableHlo.devRef_ne_of_ne h) _ _
/-- The host lines between the calls leave every buffer that they don't write. -/
theorem V3_frame (r : Ref sig .tc) (h : r ∉ W2) : V3 m d (dr r) = V2 m d (dr r) :=
  StableHlo.after_of_writes_sub ops2 (V2 m d) (StableHlo.forall_writes_sub_of_map (W := W2) rfl) h
/-- The SparseCore call leaves every buffer but its result. -/
theorem V4_frame (r : Ref sig .tc) (h : r ≠ main_v13) : V4 m d (dr r) = V3 m d (dr r) :=
  Function.update_of_ne (StableHlo.devRef_ne_of_ne h) _ _
/-- The last host line leaves every buffer that it doesn't write. -/
theorem V5_frame (r : Ref sig .tc) (h : r ∉ W3) : V5 m d (dr r) = V4 m d (dr r) :=
  StableHlo.after_of_writes_sub ops3 (V4 m d) (StableHlo.forall_writes_sub_of_map (W := W3) rfl) h

/-- A buffer nothing of @main writes ends as it was at the launch. -/
theorem V3_arg (r : Ref sig .tc) (h1 : r ∉ W1) (h2 : r ≠ main_v8) (h3 : r ∉ W2) : V3 m d (dr r) = m (d, dr r) := by
  rw [V3_frame m d r h3, V2_frame m d r h2, V1_frame m d r h1]
/-- A buffer that nothing writes ends with its first contents. -/
theorem V5_arg (r : Ref sig .tc) (h1 : r ∉ W1) (h2 : r ≠ main_v8) (h3 : r ∉ W2) (h4 : r ≠ main_v13) (h5 : r ∉ W3) :
    V5 m d (dr r) = m (d, dr r) := by
  rw [V5_frame m d r h5, V4_frame m d r h4, V3_arg m d r h1 h2 h3]

/-! ## The operands' values -/

/-- The padding value, in the float type. -/
abbrev padZ : (S_.Idx → F .f32) := sitofp .f32 (constantI S_ 32 0#32 : S_.Idx → BitVec 32)

/-- The prompt, as the TensorCore call reads it. -/
theorem V1_v0 : V1 m d (dr main_v0) = (broadcastInDim S1x1536 ![1] bcast_S1536_S1x1536_1 (m (d, dr main_arg1) : S1536.Idx → F .f32) : S1x1536.Idx → F .f32) := by
  unfold V1 ops1; after_results; rfl
/-- The projection, as the TensorCore call reads it. -/
theorem V1_v1 : V1 m d (dr main_v1) = (transpose S1536x128 [1, 0] (m (d, dr main_arg2) : S128x1536.Idx → F .f32) transposes_S128x1536_S1536x128_1_0 : S1536x128.Idx → F .f32) := by
  unfold V1 ops1; after_results; rfl
/-- The projection's bias, as the TensorCore call reads it. -/
theorem V1_v2 : V1 m d (dr main_v2) = (broadcastInDim S1x128 ![1] bcast_S128_S1x128_1 (m (d, dr main_arg3) : S128.Idx → F .f32) : S1x128.Idx → F .f32) := by
  unfold V1 ops1; after_results; rfl
/-- The first layer's prompt half, as the TensorCore call reads it. -/
theorem V1_v5 : V1 m d (dr main_v5) = (pad S128x16 ![0, 0] ![0, 6] ![0, 0] (transpose S128x10 [1, 0] (extractStridedSlice S10x128 ![0, 128]
      (m (d, dr main_arg5) : S10x256.Idx → F .f32) slices_S10x256_S10x128_0_128) transposes_S10x128_S128x10_1_0) padZ pads_S128x10_S128x16_000_060 h_S_ : S128x16.Idx → F .f32) := by
  unfold V1 ops1; after_results; rfl
/-- The first layer's bias, as the TensorCore call reads it. -/
theorem V1_v7 : V1 m d (dr main_v7) = (pad S1x16 ![0, 0] ![0, 6] ![0, 0] (broadcastInDim S1x10 ![1] bcast_S10_S1x10_1
      (m (d, dr main_arg6) : S10.Idx → F .f32)) padZ pads_S1x10_S1x16_000_060 h_S_ : S1x16.Idx → F .f32) := by
  unfold V1 ops1; after_results; rfl

/-- The TensorCore call's result, of the launch contents. -/
theorem c1Of_eq : c1Of m d = k0_pay1 (V1 m d (dr main_v0)) (V1 m d (dr main_v1)) (V1 m d (dr main_v2)) (V1 m d (dr main_v5)) (V1 m d (dr main_v7)) := rfl

/-- A buffer that nothing has written when the TensorCore call ends holds its first contents. -/
theorem V2_arg (r : Ref sig .tc) (h1 : r ∉ W1) (h2 : r ≠ main_v8) : V2 m d (dr r) = m (d, dr r) := by
  rw [V2_frame m d r h2, V1_frame m d r h1]

/-- The SparseCore call reads the indices as given. -/
theorem idsOf_eq : idsOf m d = m (d, dr main_arg0) := V3_arg m d main_arg0 (by decide) (by decide) (by decide)
/-- The SparseCore call reads the table as given. -/
theorem tabOf_eq : tabOf m d = m (d, dr main_arg4) := V3_arg m d main_arg4 (by decide) (by decide) (by decide)
/-- The SparseCore call reads what the TensorCore call wrote. -/
theorem c1In_eq : c1In m d = c1Of m d := (V3_frame m d main_v8 (by decide)).trans (Function.update_self _ _ _)
/-- The SparseCore call's first-layer weights are the first 128 columns of the argument. -/
theorem w1Of_eq : w1Of m d = extractStridedSlice S10x128 ![0, 0] (m (d, dr main_arg5) : S10x256.Idx → F .f32) slices_S10x256_S10x128_0_0 := by
  have h := V2_arg m d main_arg5 (by decide) (by decide)
  unfold w1Of V3 ops2; after_results; rw [h]
/-- The SparseCore call's second-layer weights are the argument transposed and padded to sixteen lanes. -/
theorem w2Of_eq : w2Of m d = pad S10x16 ![0, 0] ![0, 6] ![0, 0] (transpose S10x10 [1, 0] (m (d, dr main_arg7) : S10x10.Idx → F .f32)
    transposes_S10x10_S10x10_1_0) padZ pads_S10x10_S10x16_000_060 h_S_ := by
  have h := V2_arg m d main_arg7 (by decide) (by decide)
  unfold w2Of V3 ops2; after_results; rw [h]; rfl
/-- The SparseCore call's second-layer bias is the argument padded to sixteen lanes. -/
theorem b2Of_eq : b2Of m d = pad S16 ![0] ![6] ![0] (m (d, dr main_arg8) : S10.Idx → F .f32) padZ pads_S10_S16_060 h_S_ := by
  have h := V2_arg m d main_arg8 (by decide) (by decide)
  unfold b2Of V3 ops2; after_results; rw [h]; rfl
/-- The result array at the end: ten columns of the tiles' rows. -/
theorem V5_v14 : V5 m d (dr main_v14) = (extractStridedSlice S16384x10 ![0, 0] (resOf m d) slices_S16384x16_S16384x10_0_0 : S16384x10.Idx → F .f32) := by
  have h : V4 m d (dr main_v13) = resOf m d := Function.update_self _ _ _
  unfold V5 ops3; after_results; rw [h]

end Cert.Proof

end
-- ==== Proof.Split.lean ====
/-
  How the SparseCore call's operands are shared among its thirty-two tiles: a read share of every input each, and of the
  output the tile's own 512 rows; and what the launch's handshakes carry in consequence.
-/
module

public import proofs.«01_k».proof.Proof.Host

@[expose] public section

noncomputable section

namespace Cert.Proof

open Cert.KernelIdeal Cert.KernelIdeal.Gen
open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Transfers (shareTok shareDrop)

variable {F : FTy → Type} [FloatOps F]

local notation "𝕄" => RA₀ F

/-- The call runs on two SparseCores. -/
theorem nCore_zero : (K (F := F)).nCore 0 = 2 := rfl
/-- The call runs on sixteen tiles of each. -/
theorem nSub_zero : (K (F := F)).nSub 0 = 16 := rfl

/-- The grid point of SparseCore `c` and tile `i`. -/
def coordsV (c : Fin (grid1.bound 0)) (s : Fin (grid1.bound 1)) : grid1.Coords :=
  fun | 0 => c | 1 => s | ⟨_ + 2, h⟩ => absurd h (Nat.not_lt.2 (Nat.le_add_left _ _))

/-- The tile's read share of the inputs. -/
def tok (c : Fin 2) (i : Fin 16) : PosShare TreeShare := shareTok fullShare 32 (finProdFinEquiv (c, i))

/-- What stays behind of an input. -/
abbrev rest : PosShare TreeShare := shareDrop fullShare 32

/-- A buffer held whole is what stays behind and every tile's read share. -/
theorem toks_split (ℓ : Loc nD τ sig) (f : Buf (Elt F) ℓ) :
    (ℓ ↦{fullShare} f : sProp 𝕄) ⊢ iprop((ℓ ↦{rest} f)
      ∗ bigSep Finset.univ fun c : Fin 2 => bigSep Finset.univ fun i : Fin 16 => ℓ ↦{tok c i} f) := by
  refine (Transfers.pointsTo_toks_split fullShare 32).trans (sep_mono_right (Entails.of_eq ?_))
  rw [bigSep_univ_equiv (finProdFinEquiv (m := 2) (n := 16)), bigSep_univ_prod]; rfl

/-! ## The output's rows -/

/-- A tile's slice of the output is its 512 rows. -/
theorem mem_outK (L : grid1.Coords) (x : S16384x16.Idx) :
    x ∈ (outK L).view.set ↔ base L ≤ (x 0).val ∧ (x 0).val < base L + 512 := by
  have e : (outK L).view.set = (Rect.unit (s := S16384x16) (k1_off11 L) S512x16.size (k1_off11_inb L)).set := by
    show ((View.whole (main_v13_scv : Ref sig .scVector)).slice _).set = _
    rw [View.set_slice]; exact Finset.map_refl
  have h0 : k1_off11 L 0 = base L := congrFun (k1_off11_eq L) 0
  have h1 : k1_off11 L 1 = 0 := congrFun (k1_off11_eq L) 1
  rw [e, Rect.mem_set_unit, Fin.forall_fin_two, h0, h1]
  have hx : (x 1).val < 16 := (x 1).isLt
  constructor
  · exact fun h => h.1
  · exact fun h => ⟨h, Nat.zero_le _, by rw [Nat.zero_add]; exact hx⟩

/-- The places of the output that a tile writes. -/
abbrev outSet (p : Fin 2 × Fin 16) : Finset S16384x16.Idx := (outK (coordsV p.1 p.2)).view.set

/-- A tile's first row. -/
theorem base_coordsV (c : Fin 2) (i : Fin 16) : base (coordsV c i) = 1024 * i.val + 512 * c.val := rfl

/-- No two tiles write one place. -/
theorem outSet_disjoint : ∀ p ∈ (Finset.univ : Finset (Fin 2 × Fin 16)), ∀ p' ∈ (Finset.univ : Finset (Fin 2 × Fin 16)), p ≠ p' → Disjoint (outSet p) (outSet p') := by
  rintro ⟨c, i⟩ - ⟨c', i'⟩ - h
  refine Finset.disjoint_left.mpr fun x hx hx' => h ?_
  have a := (mem_outK (coordsV c i) x).mp hx
  have b := (mem_outK (coordsV c' i') x).mp hx'
  rw [base_coordsV] at a b
  have hc := c.isLt; have hc' := c'.isLt
  have ec : c.val = c'.val := by omega
  have ei : i.val = i'.val := by omega
  exact Prod.ext (Fin.ext ec) (Fin.ext ei)

/-- The tiles' slices make the whole output. -/
theorem outSet_cover : (Finset.univ : Finset (Fin 2 × Fin 16)).biUnion outSet = Finset.univ := by
  refine Finset.eq_univ_iff_forall.mpr fun x => Finset.mem_biUnion.mpr ?_
  have hx : (x 0).val < 16384 := (x 0).isLt
  refine ⟨(⟨(x 0).val % 1024 / 512, by omega⟩, ⟨(x 0).val / 1024, by omega⟩), Finset.mem_univ _, (mem_outK _ x).mpr ?_⟩
  rw [base_coordsV]
  show 1024 * ((x 0).val / 1024) + 512 * ((x 0).val % 1024 / 512) ≤ (x 0).val
    ∧ (x 0).val < 1024 * ((x 0).val / 1024) + 512 * ((x 0).val % 1024 / 512) + 512
  omega

/-- The output held whole is every tile's rows of it. -/
theorem out_split (d : Dev nD) (o : S16384x16.Idx → F .f32) :
    ((d, dr main_v13) ↦{fullShare} o : sProp 𝕄) = bigSep Finset.univ fun c : Fin 2 => bigSep Finset.univ fun i : Fin 16 =>
      (outK (coordsV c i)).view.loc (tile d (coordsV c i)) ↦[(outK (coordsV c i)).view.set]{fullShare} o := by
  refine Eq.trans ?_ (bigSep_univ_prod (fun p : Fin 2 × Fin 16 => ((d, dr main_v13) ↦[outSet p]{fullShare} o : sProp 𝕄)))
  rw [← pointsTo_biUnion Finset.univ (ℓ := ((d, dr main_v13) : Loc nD τ sig)) outSet outSet_disjoint, outSet_cover]

/-! ## The call's operands, dealt -/

/-- What the tile brings back: its rows of the output. -/
def tdT (d : Dev nD) (L : grid1.Coords) (r : S16384x16.Idx → F .f32) : sProp 𝕄 :=
  (outK L).view.loc (tile d L) ↦[(outK L).view.set]{fullShare} r

variable (m : (ℓ : Loc nD τ sig) → Buf (Elt F) ℓ)

/-- What tile `i` of SparseCore `c` is handed, and what it brings back. -/
@[irreducible] def goP (d : Dev nD) (c : Fin 2) (i : Fin 16) : sProp 𝕄 :=
  goT d (coordsV c i) (tok c i) (idsOf m d) (tabOf m d) (c1In m d) (w1Of m d) (w2Of m d) (b2Of m d) (oOf m d)
@[irreducible] def tdP (d : Dev nD) (c : Fin 2) (i : Fin 16) : sProp 𝕄 := tdT d (coordsV c i) (resOf m d)

instance goP_storable (d : Dev nD) (c : Fin 2) (i : Fin 16) : BI.Storable (upEmb : UEmb _ 𝕄) (goP m d c i) := by
  unfold goP goT; infer_instance
instance tdP_storable (d : Dev nD) (c : Fin 2) (i : Fin 16) : BI.Storable (upEmb : UEmb _ 𝕄) (tdP m d c i) := by
  unfold tdP tdT; infer_instance

/-- The call hands each SparseCore its tiles' parts, and each tile its own. -/
def P : (K (F := F)).Pay (nD := nD) (Val := Elt F) (Name := ℕ) (U := UU) where
  st := fun q d c => match q with | 0 => bigSep Finset.univ fun i : Fin 16 => goP m d (Fin.cast nCore_zero c) i
  dn := fun q d c => match q with | 0 => bigSep Finset.univ fun i : Fin 16 => tdP m d (Fin.cast nCore_zero c) i
  go := fun q d c i => match q with | 0 => goP m d (Fin.cast nCore_zero c) (Fin.cast nSub_zero i)
  td := fun q d c i => match q with | 0 => tdP m d (Fin.cast nCore_zero c) (Fin.cast nSub_zero i)
  x := fun _ _ => iprop(emp)

instance P_storable : (P (F := F) m).IsStorable where
  st q d c := match q with
    | 0 => (inferInstance : BI.Storable (upEmb : UEmb _ 𝕄) (bigSep Finset.univ fun i : Fin 16 => goP m d (Fin.cast nCore_zero c) i))
  dn q d c := match q with
    | 0 => (inferInstance : BI.Storable (upEmb : UEmb _ 𝕄) (bigSep Finset.univ fun i : Fin 16 => tdP m d (Fin.cast nCore_zero c) i))
  go q d c i := match q with
    | 0 => goP_storable m d (Fin.cast nCore_zero c) (Fin.cast nSub_zero i)
  td q d c i := match q with
    | 0 => tdP_storable m d (Fin.cast nCore_zero c) (Fin.cast nSub_zero i)

theorem bigSep_tiles (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- The call's operands split among the tiles, and what the tiles hand back joins to the call's result. -/
theorem vecSplit : (K (F := F)).VecSplit' (P m) 0 := by
  intro d c
  show (bigSep Finset.univ fun i : Fin 16 => goP m d (Fin.cast nCore_zero c) i) ⊢ |={Set.univ}=> iprop(
      (bigSep Finset.univ fun i : Fin ((K (F := F)).nSub 0) => goP m d (Fin.cast nCore_zero c) (Fin.cast nSub_zero i))
      ∗ ((bigSep Finset.univ fun i : Fin ((K (F := F)).nSub 0) => tdP m d (Fin.cast nCore_zero c) (Fin.cast nSub_zero i))
          -∗ bigSep Finset.univ fun i : Fin 16 => tdP m d (Fin.cast nCore_zero c) i))
  rw [bigSep_tiles (fun i => goP m d (Fin.cast nCore_zero c) i), bigSep_tiles (fun i => tdP m d (Fin.cast nCore_zero c) i)]
  iintro H; imodintro
  isplitl [H]; · iexact H
  iintro H; iexact H

/-- The call's seven arrays, dealt: what stays behind of the six inputs, and every SparseCore's part. -/
theorem deal (d : Dev nD) :
    iprop(((d, dr main_arg0) ↦{fullShare} idsOf m d) ∗ ((d, dr main_arg4) ↦{fullShare} tabOf m d) ∗ ((d, dr main_v8) ↦{fullShare} c1In m d)
        ∗ ((d, dr main_v12) ↦{fullShare} w1Of m d) ∗ ((d, dr main_v10) ↦{fullShare} w2Of m d) ∗ ((d, dr main_v11) ↦{fullShare} b2Of m d)
        ∗ ((d, dr main_v13) ↦{fullShare} oOf m d))
      ⊢ (iprop((((d, dr main_arg0) ↦{rest} idsOf m d) ∗ ((d, dr main_arg4) ↦{rest} tabOf m d) ∗ ((d, dr main_v8) ↦{rest} c1In m d)
        ∗ ((d, dr main_v12) ↦{rest} w1Of m d) ∗ ((d, dr main_v10) ↦{rest} w2Of m d) ∗ ((d, dr main_v11) ↦{rest} b2Of m d))
        ∗ bigSep Finset.univ fun c : Fin ((K (F := F)).nCore 0) => (P m).st 0 d c) : sProp 𝕄) := by
  have hst : (bigSep Finset.univ fun c : Fin ((K (F := F)).nCore 0) => (P m).st 0 d c)
      = bigSep Finset.univ fun c : Fin 2 => bigSep Finset.univ fun i : Fin 16 => goP m d c i :=
    bigSep_cores (fun c => bigSep Finset.univ fun i : Fin 16 => goP m d c i)
  rw [hst, out_split]
  unfold goP goT
  simp only [bigSep_sep']
  iintro ⟨H0, H4, H8, H12, H10, H11, H13⟩
  ihave H0 := (toks_split _ _) $$ H0
  ihave H4 := (toks_split _ _) $$ H4
  ihave H8 := (toks_split _ _) $$ H8
  ihave H12 := (toks_split _ _) $$ H12
  ihave H10 := (toks_split _ _) $$ H10
  ihave H11 := (toks_split _ _) $$ H11
  icases H0 with ⟨R0, T0⟩
  icases H4 with ⟨R4, T4⟩
  icases H8 with ⟨R8, T8⟩
  icases H12 with ⟨R12, T12⟩
  icases H10 with ⟨R10, T10⟩
  icases H11 with ⟨R11, T11⟩
  isplitl [R0 R4 R8 R12 R10 R11]
  · isplitl [R0]; · iexact R0
    isplitl [R4]; · iexact R4
    isplitl [R8]; · iexact R8
    isplitl [R12]; · iexact R12
    isplitl [R10]; · iexact R10
    iexact R11
  isplitl [T0]; · iexact T0
  isplitl [T4]; · iexact T4
  isplitl [T8]; · iexact T8
  isplitl [T12]; · iexact T12
  isplitl [T10]; · iexact T10
  isplitl [T11]; · iexact T11
  iexact H13

/-- What the SparseCores bring back is the output at the tiles' rows. -/
theorem collect (d : Dev nD) : (bigSep Finset.univ fun c : Fin ((K (F := F)).nCore 0) => (P m).dn 0 d c)
    = ((d, dr main_v13) ↦{fullShare} resOf m d : sProp 𝕄) := by
  have hdn : (bigSep Finset.univ fun c : Fin ((K (F := F)).nCore 0) => (P m).dn 0 d c)
      = bigSep Finset.univ fun c : Fin 2 => bigSep Finset.univ fun i : Fin 16 => tdP m d c i :=
    bigSep_cores (fun c => bigSep Finset.univ fun i : Fin 16 => tdP m d c i)
  rw [hdn, out_split]; unfold tdP tdT; rfl

end Cert.Proof

end
-- ==== Proof.Main.lean ====
/-
  The kernel's run: every fair execution of @main and the SparseCores' threads ends, every semaphore at zero, and every
  unscoped buffer of the device as the host lines and the two calls leave it.
-/
module

public import proofs.«01_k».proof.Proof.Split

@[expose] public section

noncomputable section

namespace Cert.Proof

open Cert.KernelIdeal Cert.KernelIdeal.Gen
open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => RA₀ F

variable (m : (ℓ : Loc nD τ sig) → Buf (Elt F) ℓ) (ρ : Dev nD → PrngReg)

/-! ## The tiles' obligation -/

/-- What a tile runs. -/
theorem defs₀_vector (c : Fin τ.nSC) (s : Fin τ.nSub) :
    defs₀ (F := F) (.scVector c s) 1 ()
      = SparseCore.onTile hcore1 hsub1 (fun c s => taskProg (F := F) (coordsV c s)) ⟨⟩ c s := rfl

/-- A task's end, with what it owes still in hand, read as the launch asks for it. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- What the launch memory must satisfy: every index is a row of the table. -/
def InRange : Prop := ∀ (d : Dev nD) (x : S16384.Idx), (show BitVec 32 from idsOf m d x).toNat < 100000

set_option maxRecDepth 16384 in
/-- Every tile's task, for indices in range, is the body proved of one tile. -/
theorem tileObl (hF : (K (F := F)).Facts) (hpre : InRange m) : (K (F := F)).TileObl (D (F := F)) 𝒱 (P m) v₀ 0 := by
  intro d c i O W hO _ _
  simp only [show (P m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  have hgo : (P m).go 0 d c i = goT d (coordsV (Fin.cast nCore_zero c) (Fin.cast nSub_zero i)) (tok (Fin.cast nCore_zero c) (Fin.cast nSub_zero i))
      (idsOf m d) (tabOf m d) (c1In m d) (w1Of m d) (w2Of m d) (b2Of m d) (oOf m d) := by
    show goP m d (Fin.cast nCore_zero c) (Fin.cast nSub_zero i) = _
    unfold goP; rfl
  have htd : (P m).td 0 d c i = tdT d (coordsV (Fin.cast nCore_zero c) (Fin.cast nSub_zero i)) (resOf m d) := by
    show tdP m d (Fin.cast nCore_zero c) (Fin.cast nSub_zero i) = _
    unfold tdP; rfl
  rw [hgo, htd]
  exact (tile_body d (coordsV ⟨_, hci.1⟩ ⟨_, hci.2⟩) hF (tok (Fin.cast nCore_zero c) (Fin.cast nSub_zero i)) (idsOf m d) (tabOf m d) (c1In m d)
    (w1Of m d) (w2Of m d) (b2Of m d) (oOf m d) (hpre d) O W hO).trans (wp_mono frame _ _ fun _ => obl_post)

/-! ## The launch element of the ghost state -/

abbrev admT : (p : Fin 1) → (pcfgs (F := F) p).Adm := fun p => (cfgs p).toPCfg_adm

/-- The TensorCore call's cells are distinct. -/
theorem phinj : Function.Injective (Pipeline.cellOf (nD := nD) (τ := τ) (Pipeline.pin (pcfgs (F := F)) admT)) := cellOf_inj

/-- The pipeline's cells and tokens at the launch. -/
def uP : UR sig nD τ := initOf (Pipeline.cells (Pipeline.pin (pcfgs (F := F)) admT) phinj) (Pipeline.launchToks (Pipeline.pin (pcfgs (F := F)) admT) phinj)

/-- The ghost state that the launch starts with. -/
def u₀ : UU := (initOf (K (F := F)).hsCells (K (F := F)).hsToks, (uP (F := F), 1))

/-- The TensorCore call's ghost state on a device. -/
def G (d : Dev nD) : sProp 𝕄 :=
  iprop(Pipeline.cellsGhost (Pipeline.pin (pcfgs (F := F)) admT) EP 0 d ∗ Pipeline.toksInit (Pipeline.pin (pcfgs (F := F)) admT) EP 0 d)

theorem bigSep_one (Φ : Fin 1 → Dev nD → sProp 𝕄) :
    (bigSep Finset.univ fun c : Dev nD => bigSep Finset.univ fun p : Fin 1 => Φ p c) = bigSep Finset.univ fun c => Φ 0 c :=
  bigSep_congr fun _ _ => bigSep_univ_of_subsingleton (0 : Fin 1)

theorem bigSep_emp' {I : Type} (s : Finset I) : (bigSep s fun _ => iprop(emp)) = (iprop(emp) : sProp 𝕄) := bigSep_emp_const s

/-- The launch's ghost state splits into what the handshakes, the TensorCore call and the counters start with. -/
theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀ G
  rw [bigSep_sep']
  iintro Hu
  ihave H := (ownU_pair (initOf (K (F := F)).hsCells (K (F := F)).hsToks) ((uP (F := F), 1) : UT)) $$ Hu
  icases H with ⟨HH, HT⟩
  ihave H := (own_pair_emb (embR : Emb UT 𝕄) (uP (F := F)) (1 : Counters)) $$ HT
  icases H with ⟨HP, -⟩
  ihave HP := (show (BI.own (EP (uP (F := F))) : sProp 𝕄) ⊢ BI.own (EP (initOf (Pipeline.cells (Pipeline.pin (pcfgs (F := F)) admT) phinj)
    (Pipeline.launchToks (Pipeline.pin (pcfgs (F := F)) admT) phinj))) from BI.Entails.refl _) $$ HP
  imod (Pipeline.fund_ghost (Pipeline.pin (pcfgs (F := F)) admT) EP phinj) $$ HP with ⟨Hc, Ht⟩
  imodintro
  isplitl [HH]; · iexact HH
  isplitl [Hc Ht]
  · isplitl [Hc]
    · iapply (Entails.of_eq (bigSep_one fun p c => Pipeline.cellsGhost (Pipeline.pin (pcfgs (F := F)) admT) EP p c)); iexact Hc
    · iapply (Entails.of_eq (bigSep_one fun p c => Pipeline.toksInit (Pipeline.pin (pcfgs (F := F)) admT) EP p c)); iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

/-- A device's unscoped buffers. -/
abbrev ucRefs : Finset (DevRef τ sig) := (StableHlo.tcRefs τ sig).filter fun b => ¬ b.isScoped

/-- A device's unscoped buffers at their contents, as one held set. -/
theorem unscopedBufs_held (d : Dev nD) (W : Valuation τ sig (Elt F)) :
    (unscopedBufs d (fun b => W (dr b)) : sProp 𝕄) = StableHlo.held (d.tc : Thread nD τ) ucRefs W := by
  unfold unscopedBufs StableHlo.held ucRefs StableHlo.tcRefs
  rw [Finset.filter_map, bigSep_map]; rfl

/-- The launch hands the buffers over at their first contents. -/
theorem launchBufs_held (d : Dev nD) :
    (unscopedBufs d (fun b => m ((SparseCore.T d).loc b)) : sProp 𝕄) = StableHlo.held (SparseCore.T d) ucRefs (V0 m d) := by
  rw [← unscopedBufs_held]; rfl

/-- A host line's buffers are unscoped. -/
theorem bufs_uc {op : HloOp τ sig (Elt F)} (h : op.bufs ⊆ StableHlo.tcRefs τ sig) : op.bufs ⊆ ucRefs := fun b hb =>
  Finset.mem_filter.mpr ⟨h hb, fun h' => Bool.false_ne_true ((op.no_scoped b hb).symm.trans h')⟩

theorem ops1_uc : ∀ op ∈ (ops1 (F := F)), op.bufs ⊆ ucRefs := by
  intro op h; refine bufs_uc ?_
  simp only [ops1, List.mem_cons, List.not_mem_nil, or_false] at h
  rcases h with rfl | rfl | rfl | rfl | rfl | rfl | rfl | rfl | rfl | rfl | rfl | rfl <;> simp
theorem ops2_uc : ∀ op ∈ (ops2 (F := F)), op.bufs ⊆ ucRefs := by
  intro op h; refine bufs_uc ?_
  simp only [ops2, List.mem_cons, List.not_mem_nil, or_false] at h
  rcases h with rfl | rfl | rfl | rfl | rfl | rfl | rfl | rfl <;> simp
theorem ops3_uc : ∀ op ∈ (ops3 (F := F)), op.bufs ⊆ ucRefs := by
  intro op h; refine bufs_uc ?_
  simp only [ops3, List.mem_cons, List.not_mem_nil, or_false] at h
  rcases h with rfl; simp
theorem ops1_fresh : ∀ op ∈ (ops1 (F := F)), op.fresh = ∅ := by
  intro op h
  simp only [ops1, List.mem_cons, List.not_mem_nil, or_false] at h
  rcases h with rfl | rfl | rfl | rfl | rfl | rfl | rfl | rfl | rfl | rfl | rfl | rfl <;> rfl
theorem ops2_fresh : ∀ op ∈ (ops2 (F := F)), op.fresh = ∅ := by
  intro op h
  simp only [ops2, List.mem_cons, List.not_mem_nil, or_false] at h
  rcases h with rfl | rfl | rfl | rfl | rfl | rfl | rfl | rfl <;> rfl
theorem ops3_fresh : ∀ op ∈ (ops3 (F := F)), op.fresh = ∅ := by
  intro op h
  simp only [ops3, List.mem_cons, List.not_mem_nil, or_false] at h
  rcases h with rfl <;> rfl

/-- The TensorCore owes nothing at the cells of its own copies while it owes the start signals. -/
theorem Otc_none (d : Dev nD) (n : ℕ) : ∀ g, (K (F := F)).Otc d n g none = 0 := fun g =>
  Nat.eq_zero_of_not_pos fun h => by
    have := (K (F := F)).lev_of_Otc_pos h
    rw [SparseCore.Cfg.lev_none] at this
    omega

/-- The TensorCore call as a region of this run. -/
def regT (d : Dev nD) (b₀ : ℕ) : Pipeline.RegionSeg (pcfgs (F := F)) admT
    (pdats (fun c b => V1 m c (dr b)) ((K (F := F)).Otc d 0) b₀ admT) none defs₀ 𝒱₀ (K (F := F)).L (K (F := F)).lev 0 :=
  reg (fun c b => V1 m c (dr b)) ((K (F := F)).Otc d 0) b₀ admT (fun c b => V2 m c (dr b)) (fun _ => iprop(emp)) (Otc_none d 0)
    (fun c => Function.update_self _ _ _) (fun c b h => V2_frame m c b h)

/-- One step of @main: the TensorCore call, from the region's entry state to its exit state. -/
theorem region_step [∀ e, Nonempty (Elt F e)] (d : Dev nD) (b₀ : ℕ) (Φ : PUnit → sProp 𝕄) :
    iprop(((boundary (T d) ∗ (regT m d b₀).post d) -∗ Φ ⟨⟩) ∗ boundary (T d) ∗ (regT m d b₀).pre d ∗ levAts (K (F := F)).L (K (F := F)).lev ∗ G (F := F) d)
      ⊢ wp frame (wpE ((K (F := F)).defs (D (F := F))) 𝒱 (T d) none) Set.univ
          (Prog.lift (.customCall (SparseCore.inner (Pipeline.entry 0)) ()) : Prog (TpuEff nD τ sig (Elt F) (SparseCore.Sig (ΛP (F := F)) 1) .tc) PUnit) Φ := by
  refine BI.Entails.trans (BI.Entails.trans ?_ (Pipeline.RegionSeg.wp (pcfgs (F := F)) admT
      (pdats (fun c b => V1 m c (dr b)) ((K (F := F)).Otc d 0) b₀ admT) none phinj EP defs₀ 𝒱₀ (K (F := F)).L (K (F := F)).lev (regT m d b₀) d none
      (fun u hu => nomatch hu) Prog.ret Φ)) ((K (F := F)).wp_liftProg (D (F := F)) 𝒱 (T d) Set.univ none
      (.op (.customCall (Pipeline.entry 0) ()) Prog.ret) Φ)
  unfold G
  show (_ : sProp 𝕄) ⊢ _
  iintro ⟨Hk, Hb, Hp, Hl, Hc, Ht⟩
  isplitl [Hk]
  · iintro H
    rw [wp_ret]
    imodintro
    iapply Hk; iexact H
  isplitl [Hb]; · iexact Hb
  isplitl [Hp]; · iexact Hp
  isplitl [Hl]; · iexact Hl
  isplitl [Hc]; · iexact Hc
  iexact Ht

/-! ## The SparseCore call's operands among the device's buffers -/

abbrev S6 : Finset (DevRef τ sig) := {dr main_arg0, dr main_arg4, dr main_v8, dr main_v12, dr main_v10, dr main_v11}
abbrev S7 : Finset (DevRef τ sig) := {dr main_arg0, dr main_arg4, dr main_v8, dr main_v12, dr main_v10, dr main_v11, dr main_v13}

/-- The share of each buffer the TensorCore keeps across the call. -/
def qF (b : DevRef τ sig) : PosShare TreeShare := if b ∈ S6 then rest else fullShare

/-- The SparseCore call's operands and result are unscoped buffers. -/
theorem S7_sub : S7 ⊆ ucRefs := by decide

theorem bigSep_S7 (Φ : DevRef τ sig → sProp 𝕄) : bigSep S7 Φ = iprop(Φ (dr main_arg0) ∗ Φ (dr main_arg4) ∗ Φ (dr main_v8) ∗ Φ (dr main_v12)
    ∗ Φ (dr main_v10) ∗ Φ (dr main_v11) ∗ Φ (dr main_v13)) := by
  rw [SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

/-- A held set of buffers splits at a subset of it. -/
theorem heldAt_sub_split (c : Thread nD τ) {A S : Finset (DevRef τ sig)} (h : A ⊆ S) (q : DevRef τ sig → PosShare TreeShare) (W : Valuation τ sig (Elt F)) :
    (StableHlo.heldAt c S q W : sProp 𝕄) = iprop(StableHlo.heldAt c A q W ∗ StableHlo.heldAt c (S \ A) q W) := by
  unfold StableHlo.heldAt
  conv_lhs => rw [← Finset.union_sdiff_of_subset h]
  exact bigSep_union Finset.disjoint_sdiff

/-- Into the call: every buffer held whole gives what stays behind of the inputs, the other buffers, and the SparseCores' parts. -/
theorem into (d : Dev nD) : (StableHlo.held (T d) ucRefs (V3 m d) : sProp 𝕄)
    ⊢ iprop(((((d, dr main_arg0) ↦{rest} idsOf m d) ∗ ((d, dr main_arg4) ↦{rest} tabOf m d) ∗ ((d, dr main_v8) ↦{rest} c1In m d)
        ∗ ((d, dr main_v12) ↦{rest} w1Of m d) ∗ ((d, dr main_v10) ↦{rest} w2Of m d) ∗ ((d, dr main_v11) ↦{rest} b2Of m d))
        ∗ bigSep Finset.univ fun c : Fin ((K (F := F)).nCore 0) => (P m).st 0 d c)
      ∗ StableHlo.held (T d) (ucRefs \ S7) (V3 m d)) := by
  rw [StableHlo.held_sub_split (T d) S7_sub]
  refine sep_mono_left ((Entails.of_eq ?_).trans (deal m d))
  unfold StableHlo.held
  rw [bigSep_S7]; rfl

/-- Out of it: with the output back, every buffer at the contents after the call, the inputs at what stayed behind. -/
theorem outof (d : Dev nD) : iprop((((d, dr main_arg0) ↦{rest} idsOf m d) ∗ ((d, dr main_arg4) ↦{rest} tabOf m d) ∗ ((d, dr main_v8) ↦{rest} c1In m d)
        ∗ ((d, dr main_v12) ↦{rest} w1Of m d) ∗ ((d, dr main_v10) ↦{rest} w2Of m d) ∗ ((d, dr main_v11) ↦{rest} b2Of m d))
        ∗ ((d, dr main_v13) ↦{fullShare} resOf m d) ∗ StableHlo.held (T d) (ucRefs \ S7) (V3 m d))
    ⊢ (StableHlo.heldAt (T d) ucRefs qF (V4 m d) : sProp 𝕄) := by
  have hne : ∀ b, b ≠ dr main_v13 → V4 m d b = V3 m d b := fun b h => Function.update_of_ne h _ _
  have hr : (StableHlo.heldAt (T d) (ucRefs \ S7) qF (V4 m d) : sProp 𝕄) = StableHlo.held (T d) (ucRefs \ S7) (V3 m d) :=
    bigSep_congr fun b hb => by
      have hb' := (Finset.mem_sdiff.mp hb).2
      rw [hne b (fun h => hb' (h ▸ by decide)), show qF b = fullShare from if_neg fun h => hb' (by
        simp only [S6, S7, Finset.mem_insert, Finset.mem_singleton] at h ⊢; tauto)]
  rw [heldAt_sub_split (T d) S7_sub, hr]
  unfold StableHlo.heldAt
  rw [bigSep_S7, hne (dr main_arg0) (by decide), hne (dr main_arg4) (by decide), hne (dr main_v8) (by decide), hne (dr main_v12) (by decide),
    hne (dr main_v10) (by decide), hne (dr main_v11) (by decide), show V4 m d (dr main_v13) = resOf m d from Function.update_self _ _ _,
    show qF (dr main_arg0) = rest from if_pos (by decide), show qF (dr main_arg4) = rest from if_pos (by decide),
    show qF (dr main_v8) = rest from if_pos (by decide), show qF (dr main_v12) = rest from if_pos (by decide),
    show qF (dr main_v10) = rest from if_pos (by decide), show qF (dr main_v11) = rest from if_pos (by decide),
    show qF (dr main_v13) = fullShare from if_neg (by decide)]
  iintro ⟨⟨H0, H4, H8, H12, H10, H11⟩, H13, Hr⟩
  isplitr [Hr]
  · isplitl [H0]; · iexact H0
    isplitl [H4]; · iexact H4
    isplitl [H8]; · iexact H8
    isplitl [H12]; · iexact H12
    isplitl [H10]; · iexact H10
    isplitl [H11]; · iexact H11
    iexact H13
  · iexact Hr

/-- What the TensorCore holds at the end: every unscoped buffer. -/
abbrev FIN (d : Dev nD) : sProp 𝕄 := StableHlo.heldAt (T d) ucRefs qF (V5 m d)

theorem ops3_full : ∀ op ∈ (ops3 (F := F)), ∀ b ∈ op.writes, qF b = fullShare := by
  intro op h
  simp only [ops3, List.mem_cons, List.not_mem_nil, or_false] at h
  rcases h with rfl
  intro b hb
  have hb' : b = dr main_v14 := by simpa using hb
  rw [hb']; exact if_neg (by decide)

/-- The TensorCore's state before the call: what it owes, and the rest. -/
theorem tcSt_open (d : Dev nD) : ∃ R : sProp 𝕄, ((K (F := F)).tcSt EH d 0 : sProp 𝕄)
    = iprop((∃ W, ⌜(K (F := F)).WBelow (SparseCore.T d) W 0⌝ ∗ owes (SparseCore.T d) ((K (F := F)).Otc d 0) W) ∗ R) := ⟨_, rfl⟩

/-- What the TensorCore call starts from. -/
theorem regT_pre (d : Dev nD) : (regT m d 0).pre d = iprop(StableHlo.held (SparseCore.T d) ucRefs (V1 m d) ∗ emp
    ∗ ∃ W, ⌜(K (F := F)).WBelow (SparseCore.T d) W 0⌝ ∗ owes (SparseCore.T d) ((K (F := F)).Otc d 0) W) := by
  rw [← unscopedBufs_held]; rfl
/-- What the TensorCore call ends with. -/
theorem regT_post (d : Dev nD) : (regT m d 0).post d = iprop(StableHlo.held (SparseCore.T d) ucRefs (V2 m d) ∗ emp
    ∗ ∃ W, ⌜(K (F := F)).WBelow (SparseCore.T d) W 0⌝ ∗ owes (SparseCore.T d) ((K (F := F)).Otc d 0) W) := by
  rw [← unscopedBufs_held]; rfl

/-- @main on a device's TensorCore, from the launch's state to the end's. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain ⟨R, hR⟩ := tcSt_open (F := F) d
  unfold SparseCore.Cfg.tcRes SparseCore.Cfg.tcEnd
  rw [main_eq, launchBufs_held]
  iintro ⟨#Hctx, Hst, ⟨Hb, Hh, Hts, -⟩, Hg⟩
  iapply (StableHlo.wp_seq 𝒱 none Set.univ d ucRefs _ ops1 ops1_uc ops1_fresh (V0 m d)) $$ [Hb Hh]
  · isplitl [Hb]; · iexact Hb
    iexact Hh
  iintro ⟨Hb, Hh⟩
  rw [wp_bind]
  ihave Hst := (Entails.of_eq hR) $$ Hst
  icases Hst with ⟨HO, Hst⟩
  ihave #Hlev := ((K (F := F)).ctx_levAts κ) $$ Hctx
  iapply (region_step m d 0)
  rw [regT_pre, regT_post]
  isplitr [Hb Hh HO Hg]
  · iintro ⟨Hb, Hh, -, HO⟩
    ihave Hst := (Entails.of_eq hR.symm) $$ [HO Hst]
    · isplitl [HO]; · iexact HO
      iexact Hst
    iapply (StableHlo.wp_seq 𝒱 none Set.univ d ucRefs _ ops2 ops2_uc ops2_fresh (V2 m d)) $$ [Hb Hh]
    · isplitl [Hb]; · iexact Hb
      iexact Hh
    iintro ⟨Hb, Hh⟩
    rw [wp_bind]
    ihave Hh := (show (StableHlo.held (SparseCore.T d) ucRefs (StableHlo.after ops2 (V2 m d)) : sProp 𝕄) ⊢ StableHlo.held (SparseCore.T d) ucRefs (V3 m d)
      from BI.Entails.refl _) $$ Hh
    ihave H := (into m d) $$ Hh
    icases H with ⟨⟨Hrest, Hgo⟩, Hoth⟩
    iapply ((K (F := F)).wp_run (D (F := F)) 𝒱 (EH := EH) (P := P m) κ d 0) $$ [Hst Hgo Hrest Hoth Hb Hts]
    isplitr; · iexact Hctx
    isplitl [Hst]; · iexact Hst
    isplitl [Hgo]; · iexact Hgo
    iintro ⟨Hst, Hdn⟩
    ihave Ho := (Entails.of_eq (collect m d)) $$ Hdn
    ihave Hh := (outof m d) $$ [Hrest Hoth Ho]
    · isplitl [Hrest]; · iexact Hrest
      isplitl [Ho]; · iexact Ho
      iexact Hoth
    rw [show (StableHlo.seq (ops3 (F := F)) : Prog (TpuEff nD τ sig (Elt F) (SparseCore.Sig (ΛP (F := F)) 1) .tc) PUnit) = StableHlo.seq ops3 >>= Prog.ret from (bind_pure _).symm]
    iapply (StableHlo.wp_seqAt 𝒱 none Set.univ d ucRefs qF _ ops3 ops3_uc ops3_full ops3_fresh (V4 m d)) $$ [Hb Hh]
    · isplitl [Hb]; · iexact Hb
      iexact Hh
    iintro ⟨Hb, Hh⟩
    rw [wp_ret]
    imodintro
    isplitl [Hst]; · iexact Hst
    isplitl [Hh]; · iexact Hh
    isplitl [Hb]; · iexact Hb
    iexact Hts
  · isplitl [Hb]; · iexact Hb
    isplitl [Hh HO]
    · isplitl [Hh]; · iexact Hh
      isplitr; · iempintro
      iexact HO
    isplitr; · iexact Hlev
    iexact Hg

/-! ## The run -/

/-- What is read off one device at the end: every unscoped buffer at its last contents. -/
def fq (d : Dev nD) (s' : Phys nD τ sig (Elt F)) : Prop := ∀ b ∈ ucRefs, s'.mem.mem (d, b) = V5 m d b

/-- What the main thread ends with says what is read off its device. -/
theorem hfin (d : Dev nD) (s' : Phys nD τ sig (Elt F)) : iprop(FIN m d ∗ SI s') ⊢ (⌜fq m d s'⌝ : sProp 𝕄) := by
  have one : ∀ b : {b // b ∈ ucRefs}, iprop(FIN m d ∗ SI s') ⊢ (⌜s'.mem.mem (d, b.1) = V5 m d b.1⌝ : sProp 𝕄) := fun b => by
    refine (sep_mono_left (bigSep_elim b.2)).trans ?_
    iintro ⟨H, HSI⟩
    ihave H := (SI_pointsTo_agree (st := s') (ℓ := ((d, b.1) : Loc nD τ sig)) (I := Finset.univ) (q := qF b.1) (f := V5 m d b.1)) $$ [HSI H]
    · isplitl [HSI] <;> iassumption
    icases H with %h
    ipureintro; exact funext fun i => h i (Finset.mem_univ i)
  exact ((Laws.forall_intro one).trans Laws.pure_forall.2).trans (Laws.pure_mono fun h b hb => h ⟨b, hb⟩)

/-- What a run ends with: every unscoped buffer of every device at its last contents, every semaphore at zero. -/
def QC : PUnit × MemSt nD τ sig (Elt F) → Prop := fun r => (∀ (d : Dev nD), ∀ b ∈ ucRefs, r.2.mem (d, b) = V5 m d b) ∧ r.2.sem = fun _ => 0

/-- The kernel's run, for indices in range: it ends without fault, every unscoped buffer at its last contents and every
    semaphore at zero. -/
theorem run_main [∀ e, Nonempty (Elt F e)] (hpre : InRange m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) launchFacts v₀
    (fun q hq => match q with | 0 => nomatch hq)
    (fun q _ => match q with | 0 => tileObl m launchFacts hpre)
    (fun q _ => match q with | 0 => SparseCore.Cfg.VecSplit.of_plain (vecSplit m))
    m ρ main (G (F := F)) (FIN m) (u₀ (F := F)) (sep_elim_left.trans (hu₀ m)) (hmain m ρ) (fq m) (hfin m) (QC m) (fun _ h hz => ⟨h, hz⟩)

end Cert.Proof

end
-- ==== Proof.Frames.lean ====
/-
  The frames: the precondition bounds the indices, and the kernel's run, read at its arguments, leaves them unchanged with
  every semaphore at zero, at both instances of the float values; the reference's run does the same.
-/
module

public import proofs.«01_k».proof.Defs
public import proofs.«01_k».proof.Proof.Main
public import proofs.«01_k».proof.Proof.Gen.Kernel
public import proofs.«01_k».proof.Proof.Gen.Pre_in_range
public import proofs.«01_k».proof.Proof.Gen.ReferenceIdeal.Run
public import Idealize.ShloMosaic.Lib.ReduceAll
public import Idealize.ShloMosaic.Lib.WordCmp

@[expose] public section

noncomputable section

namespace Cert.Proof

open Cert.KernelIdeal Cert.KernelIdeal.Gen
open Idealize.ShloMosaic Idealize.ShloMosaic.ValueIdx
open Idealize.SL.Sem

variable {F : FTy → Type} [FloatOps F]

/-- A word that is at least 0 and below 100000, read signed, is below 100000 read unsigned. -/
theorem word_lt (v : BitVec 32) (e : IntOp.andi (IntOp.cmpi .sge v 0#32) (IntOp.cmpi .slt v 100000#32) = 1#1) : v.toNat < 100000 := by
  have both : ∀ p q : Bool, IntOp.andi (BitVec.ofBool p) (BitVec.ofBool q) = 1#1 → p = true ∧ q = true := by decide
  have h := both _ _ e
  simp only [BitVec.sle_eq_decide, BitVec.slt_eq_decide, decide_eq_true_eq, BitVec.toInt_eq_toNat_cond, BitVec.toNat_ofNat, Nat.reducePow, Nat.reduceMod] at h
  omega

instance : Subsingleton Cert.Pre_in_range.S_.Idx := ⟨fun a b => funext fun d => d.elim0⟩

/-- The precondition bounds every index. -/
theorem ids_lt (a0 : S16384.Idx → BitVec 32) (a1 : FVec F S1536 .f32) (a2 : FVec F S128x1536 .f32) (a3 : FVec F S128 .f32)
    (a4 : FVec F S100000x128 .f32) (a5 : FVec F S10x256 .f32) (a6 : FVec F S10 .f32) (a7 : FVec F S10x10 .f32) (a8 : FVec F S10 .f32)
    (h : Cert.Pre_in_range.fn (F := F) a0 a1 a2 a3 a4 a5 a6 a7 a8 = fun _ => 1#1) (x : S16384.Idx) : (a0 x).toNat < 100000 :=
  word_lt _ (Host.reduce_andi_all _ _ _ _ ix0 (congrFun h ix0) x)

/-- Indices below 100000 on every device are the range the run asks for. -/
theorem inRange_of (m : (ℓ : Loc nD τ sig) → Buf (Elt F) ℓ)
    (h : ∀ (d : Dev nD) (x : S16384.Idx), (show BitVec 32 from m (d, dr main_arg0) x).toNat < 100000) : InRange m := by
  intro d x
  rw [idsOf_eq]
  exact h d x

/-- Of the run's end: the nine arguments are unchanged and every semaphore is at zero. -/
theorem args_of_QC (m : (ℓ : Loc nD τ sig) → Buf (Elt F) ℓ) (r : PUnit × MemSt nD τ sig (Elt F)) (h : QC m r) (c : Dev nD)
    (b : Ref sig .tc) (hu : dr b ∈ ucRefs) (h1 : b ∉ W1) (h2 : b ≠ main_v8) (h3 : b ∉ W2) (h4 : b ≠ main_v13) (h5 : b ∉ W3) :
    r.2.mem (c, dr b) = m (c, dr b) :=
  (h.1 c _ hu).trans (V5_arg m c b h1 h2 h3 h4 h5)

/-- The nine arguments as they were in `m`. -/
def Same (m : (ℓ : Loc nD τ sig) → Buf (Elt F) ℓ) (s : MemSt nD τ sig (Elt F)) (c : Dev nD) : Prop :=
  s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)
  ∧ s.mem ((c.tc : Thread nD τ).loc main_arg5) = m ((c.tc : Thread nD τ).loc main_arg5)
  ∧ s.mem ((c.tc : Thread nD τ).loc main_arg6) = m ((c.tc : Thread nD τ).loc main_arg6)
  ∧ s.mem ((c.tc : Thread nD τ).loc main_arg7) = m ((c.tc : Thread nD τ).loc main_arg7)
  ∧ s.mem ((c.tc : Thread nD τ).loc main_arg8) = m ((c.tc : Thread nD τ).loc main_arg8)

/-- A run's end leaves the nine arguments as they were. -/
theorem same_of_QC (m : (ℓ : Loc nD τ sig) → Buf (Elt F) ℓ) (r : PUnit × MemSt nD τ sig (Elt F)) (h : QC m r) (c : Dev nD) : Same m r.2 c :=
  ⟨args_of_QC m r h c main_arg0 (by decide) (by decide) (by decide) (by decide) (by decide) (by decide),
   args_of_QC m r h c main_arg1 (by decide) (by decide) (by decide) (by decide) (by decide) (by decide),
   args_of_QC m r h c main_arg2 (by decide) (by decide) (by decide) (by decide) (by decide) (by decide),
   args_of_QC m r h c main_arg3 (by decide) (by decide) (by decide) (by decide) (by decide) (by decide),
   args_of_QC m r h c main_arg4 (by decide) (by decide) (by decide) (by decide) (by decide) (by decide),
   args_of_QC m r h c main_arg5 (by decide) (by decide) (by decide) (by decide) (by decide) (by decide),
   args_of_QC m r h c main_arg6 (by decide) (by decide) (by decide) (by decide) (by decide) (by decide),
   args_of_QC m r h c main_arg7 (by decide) (by decide) (by decide) (by decide) (by decide) (by decide),
   args_of_QC m r h c main_arg8 (by decide) (by decide) (by decide) (by decide) (by decide) (by decide)⟩

/-- The kernel over any float values, its indices in range: it runs, its arguments are unchanged, every semaphore ends at
    zero. -/
theorem run_frame (m : (ℓ : Loc nD τ sig) → Buf (Elt F) ℓ) (ρ : Dev nD → PrngReg) [∀ e, Nonempty (Elt F e)] (hpre : InRange m) :
    θ_run (Cert.KernelIdeal.defs (F := F)) (Cert.KernelIdeal.threads (F := F)) ⟨m, fun _ => 0, ρ⟩
      (fun r => (∀ c, Same m r.2 c) ∧ r.2.sem = fun _ => 0) :=
  (θ_run Cert.KernelIdeal.defs _ _).mono (fun r h => ⟨same_of_QC m r h, h.2⟩) (run_main m ρ hpre)

/-- The kernel's body table is the idealized kernel's: the two programs are one text. -/
theorem bodies_eq : Cert.Kernel.defs₀ (F := F) = Cert.KernelIdeal.defs₀ (F := F) := by
  funext p ℓ a
  cases p with
  | tc => match ℓ, a with
    | 0, _ => rfl
    | 1, _ => rfl
  | scScalar c => match ℓ, a with
    | 0, _ => rfl
    | 1, _ => rfl
  | scVector c s => match ℓ, a with
    | 0, _ => rfl
    | 1, _ => rfl

/-- The two programs' whole tables are one, as their bodies are. -/
theorem table_eq : Cert.Kernel.defs (F := F) = Cert.KernelIdeal.defs (F := F) :=
  congrArg (fun d => (Cert.KernelIdeal.sc (F := F)).defs (Pipeline.defs Cert.KernelIdeal.pcfgs d)) bodies_eq

/-- The frame of the kernel read over bits. -/
theorem frame_kernel : Cert.quiescent_Kernel := fun m ρ hpre => by
  rw [table_eq]
  exact run_frame (F := Bits) m ρ (inRange_of m fun d x => ids_lt _ _ _ _ _ _ _ _ _ (hpre d) x)

/-- The frame of the kernel read over extended reals. -/
theorem frame_kernelIdeal : Cert.quiescent_KernelIdeal := fun m ρ hpre =>
  run_frame (F := Ideal) m ρ (inRange_of m fun d x => ids_lt _ _ _ _ _ _ _ _ _ (hpre d) x)

/-- The frame of the reference: it has no semaphore. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

end Cert.Proof

end
-- ==== Proof.Sums.lean ====
/-
  The kernel's numbers read at an index over extended reals: the prefix sums' last lane is a sum of sixteen lanes, a row's
  sixteen lanes are sums over the ten hidden units, and the padded operands hold the arguments where the result looks.
-/
module

public import proofs.«01_k».proof.Proof.Host
public import Idealize.ShloMosaic.Lib.Pointwise

@[expose] public section

noncomputable section

namespace Cert.Proof

open Cert.KernelIdeal Cert.KernelIdeal.Gen
open Idealize.ShloMosaic
open Idealize.SL.Sem

/-- The last lane of the prefix sums is the sum of the lanes. -/
theorem scan_last (p : FVec Ideal S16 .f32) :
    laneAt 15 slices_S16_o15_S1 (scan p) = ∑ i : Fin 16, p (ix1 i) := by
  pointwise [scan, scanStep, laneAt]
  simp only [Fin.sum_univ_castSucc, Finset.univ_eq_empty, Finset.sum_empty, zero_add]
  rfl

/-- A lane of the eight chunks' products is the sum over the chunks. -/
theorem dot_apply (e w : Fin 8 → FVec Ideal S16 .f32) (i : Fin 16) :
    dotLanes e w (ix1 i) = ∑ n : Fin 8, e n (ix1 i) * w n (ix1 i) := by
  pointwise [dotLanes]
  simp only [Fin.sum_univ_castSucc, Finset.univ_eq_empty, Finset.sum_empty, zero_add]
  rfl

/-- One hidden unit's step at a lane. -/
theorem unit_apply (x : FVec Ideal S16 .f32) (e w : Fin 8 → FVec Ideal S16 .f32) (c u : FVec Ideal S16 .f32) (l : Fin 16) :
    unitStep x e w c u (ix1 l) = x (ix1 l) + max ((∑ i : Fin 16, ∑ n : Fin 8, e n (ix1 i) * w n (ix1 i)) + c (ix1 l)) 0 * u (ix1 l) := by
  have h := scan_last (dotLanes e w)
  simp only [dot_apply] at h
  rw [← h]
  pointwise [unitStep]

/-- A sum over ten, written out from the left. -/
theorem sum_ten (g : Fin 10 → EReal) : ∑ j : Fin 10, g j = g 0 + g 1 + g 2 + g 3 + g 4 + g 5 + g 6 + g 7 + g 8 + g 9 := by
  simp only [Fin.sum_univ_castSucc, Finset.univ_eq_empty, Finset.sum_empty, zero_add]
  rfl

/-- The sixteen lanes a row stores, at a lane: the second layer of the clipped first layer, plus its bias. -/
theorem row_apply (b : FVec Ideal S16 .f32) (e : Fin 8 → FVec Ideal S16 .f32) (w : Fin 10 → Fin 8 → FVec Ideal S16 .f32)
    (c u : Fin 10 → FVec Ideal S16 .f32) (l : Fin 16) :
    rowLanes b e w c u (ix1 l)
      = (∑ j : Fin 10, max ((∑ i : Fin 16, ∑ n : Fin 8, e n (ix1 i) * w j n (ix1 i)) + c j (ix1 l)) 0 * u j (ix1 l)) + b (ix1 l) := by
  unfold rowLanes
  simp only [unit_apply]
  rw [add_comm (∑ j : Fin 10, _)]
  rw [sum_ten]
  simp only [← add_assoc]

/-- Summing lane by lane, and in a lane chunk by chunk, sums the 128 columns. -/
theorem chunks_sum (g : Fin 128 → EReal) : (∑ i : Fin 16, ∑ n : Fin 8, g (col n (ix1 i))) = ∑ k : Fin 128, g k := by
  rw [Finset.sum_comm, ← Fintype.sum_prod_type']
  refine Fintype.sum_equiv (finProdFinEquiv (m := 8) (n := 16)) _ _ fun x => congrArg g (Fin.ext ?_)
  show 16 * x.1.val + x.2.val = x.2.val + 16 * x.1.val
  omega

/-- The TensorCore call's result in the row of a hidden unit, at any lane: the unit's prompt half, of the arguments. -/
theorem prompt_apply (a1 : FVec Ideal S1536 .f32) (a2 : FVec Ideal S128x1536 .f32) (a3 : FVec Ideal S128 .f32) (a5 : FVec Ideal S10x256 .f32)
    (a6 : FVec Ideal S10 .f32) (j : Fin 10) (l : Fin 16) :
    k0_pay1 (F := Ideal) (broadcastInDim S1x1536 ![1] bcast_S1536_S1x1536_1 a1) (transpose S1536x128 [1, 0] a2 transposes_S128x1536_S1536x128_1_0)
      (broadcastInDim S1x128 ![1] bcast_S128_S1x128_1 a3)
      (pad S128x16 ![0, 0] ![0, 6] ![0, 0] (transpose S128x10 [1, 0] (extractStridedSlice S10x128 ![0, 128] a5 slices_S10x256_S10x128_0_128) transposes_S10x128_S128x10_1_0) (padZ (F := Ideal)) pads_S128x10_S128x16_000_060 h_S_)
      (pad S1x16 ![0, 0] ![0, 6] ![0, 0] (broadcastInDim S1x10 ![1] bcast_S10_S1x10_1 a6) (padZ (F := Ideal)) pads_S1x10_S1x16_000_060 h_S_) (ix2 (j.castLE (by decide)) l)
    = (∑ k : Fin 128, ((∑ q : Fin 1536, a1 (ix1 q) * a2 (ix2 k q)) + a3 (ix1 k)) * a5 (ix2 j (k.natAdd 128))) + a6 (ix1 j) := by
  pointwise [k0_pay1]
  have hj : (j.castLE (by decide : 10 ≤ 16)).val < 10 := j.isLt
  simp only [dif_pos hj]
  rfl

/-- The second layer's padded transpose at a column below ten. -/
theorem pad2_apply (a7 : FVec Ideal S10x10 .f32) (j l : Fin 10) :
    pad S10x16 ![0, 0] ![0, 6] ![0, 0] (transpose S10x10 [1, 0] a7 transposes_S10x10_S10x10_1_0) (padZ (F := Ideal)) pads_S10x10_S10x16_000_060 h_S_ (ix2 j (l.castLE (by decide)))
      = a7 (ix2 l j) := by
  pointwise
  have hl : (l.castLE (by decide : 10 ≤ 16)).val < 10 := l.isLt
  simp only [dif_pos hl]
  rfl

/-- The second layer's padded bias at a column below ten. -/
theorem pad1_apply (a8 : FVec Ideal S10 .f32) (l : Fin 10) :
    pad S16 ![0] ![6] ![0] a8 (padZ (F := Ideal)) pads_S10_S16_060 h_S_ (ix1 (l.castLE (by decide))) = a8 (ix1 l) := by
  pointwise
  have hl : (l.castLE (by decide : 10 ≤ 16)).val < 10 := l.isLt
  simp only [dif_pos hl]
  rfl

/-- The first layer's embedding half is its first 128 columns. -/
theorem half_apply (a5 : FVec Ideal S10x256 .f32) (j : Fin 10) (k : Fin 128) :
    extractStridedSlice S10x128 ![0, 0] a5 slices_S10x256_S10x128_0_0 (ix2 j k) = a5 (ix2 j (k.castAdd 128)) := by
  pointwise
  rfl

/-- The result in plain sums, over the arguments: for row `r` and class `l`, the second layer of the clipped first layer of
    the table's row next to the projected prompt. -/
def resultAt (a0 : S16384.Idx → BitVec 32) (a1 : FVec Ideal S1536 .f32) (a2 : FVec Ideal S128x1536 .f32) (a3 : FVec Ideal S128 .f32)
    (a4 : FVec Ideal S100000x128 .f32) (a5 : FVec Ideal S10x256 .f32) (a6 : FVec Ideal S10 .f32) (a7 : FVec Ideal S10x10 .f32)
    (a8 : FVec Ideal S10 .f32) (r : Fin 16384) (l : Fin 10) : EReal :=
  (∑ j : Fin 10, max ((∑ k : Fin 128, a4 (ix2 (rowOf (a0 (ix1 r))) k) * a5 (ix2 j (k.castAdd 128)))
    + ((∑ k : Fin 128, ((∑ q : Fin 1536, a1 (ix1 q) * a2 (ix2 k q)) + a3 (ix1 k)) * a5 (ix2 j (k.natAdd 128))) + a6 (ix1 j))) 0
    * a7 (ix2 l j)) + a8 (ix1 l)

/-- The kernel's result array is the plain sums. -/
theorem kernel_value (m : (ℓ : Loc nD τ sig) → Buf (Elt Ideal) ℓ) (d : Dev nD) (r : Fin 16384) (l : Fin 10) :
    (V5 m d (dr main_v14) : S16384x10.Idx → EReal) (ix2 r l)
      = resultAt (m (d, dr main_arg0)) (m (d, dr main_arg1)) (m (d, dr main_arg2)) (m (d, dr main_arg3)) (m (d, dr main_arg4))
          (m (d, dr main_arg5)) (m (d, dr main_arg6)) (m (d, dr main_arg7)) (m (d, dr main_arg8)) r l := by
  rw [V5_v14]
  have hs : extractStridedSlice S16384x10 ![0, 0] (resOf m d) slices_S16384x16_S16384x10_0_0 (ix2 r l)
      = resOf m d (ix2 r (l.castLE (by decide))) := by pointwise; rfl
  refine hs.trans ?_
  unfold resOf outRows lanesOf
  rw [idsOf_eq, tabOf_eq, c1In_eq, w1Of_eq, w2Of_eq, b2Of_eq, c1Of_eq, V1_v0, V1_v1, V1_v2, V1_v5, V1_v7]
  simp only [← ix1_eq_valueIdx, ← ix2_eq_valueIdx, ix2_0, ix2_1, ix1_0]
  refine (row_apply _ _ _ _ _ _).trans ?_
  unfold resultAt
  refine congrArg₂ (· + ·) (Finset.sum_congr rfl fun j _ => congrArg₂ (· * ·) (congrArg (max · 0) (congrArg₂ (· + ·) ?_ ?_)) ?_) ?_
  · rw [← chunks_sum]
    refine Finset.sum_congr rfl fun i _ => Finset.sum_congr rfl fun n _ => congrArg₂ (· * ·) rfl (half_apply _ _ _)
  · exact prompt_apply _ _ _ _ _ j _
  · exact pad2_apply _ j l
  · exact pad1_apply _ l

end Cert.Proof

end
-- ==== Proof.RefValue.lean ====
/-
  The reference's result read at an index over extended reals: its lookup of the table, for indices in range, is the
  table's rows, and its result is the plain sums the kernel's is.
-/
module

public import proofs.«01_k».proof.Proof.Sums
public import proofs.«01_k».proof.Proof.Gen.ReferenceIdeal
public import Idealize.ShloMosaic.Lib.ReduceAll
public import Idealize.ShloMosaic.Lib.Routing.Ops

@[expose] public section

noncomputable section

namespace Cert.Proof.Ref

open Cert.ReferenceIdeal Cert.ReferenceIdeal.Gen
open Idealize.ShloMosaic
open Idealize.SL.Sem

/-- The reference's start indices: an index below zero counts from the table's end. -/
def wrapped (a0 : S16384.Idx → BitVec 32) : S16384x1.Idx → BitVec 32 :=
  broadcastInDim S16384x1 ![0] bcast_S16384_S16384x1_0 (select (cmpi .slt a0 (broadcastInDim S16384 ![] bcast_S_S16384 (constantI S_ 32
    0#32))) (addi a0 (broadcastInDim S16384 ![] bcast_S_S16384 (constantI S_ 32 100000#32))) a0)

/-- The reference's lookup: the table's rows, and a fill where an index is out of range. -/
def taken (a0 : S16384.Idx → BitVec 32) (a4 : FVec Ideal S100000x128 .f32) : FVec Ideal S16384x128 .f32 :=
  select (broadcastInDim S16384x128 ![0] bcast_S16384_S16384x128_0 (Host.reduce IntOp.andi (andi (cmpi .sge (wrapped a0) (broadcastInDim
    S16384x1 ![] bcast_S_S16384x1 (constantI S_ 32 0#32))) (cmpi .sle (wrapped a0) (broadcastInDim S16384x1 ![0, 1] bcast_S1x1_S16384x1_0_1
    (broadcastInDim S1x1 ![1] bcast_S1_S1x1_1 (constantI S1 32 99999#32))))) (constantI S_ 1 1#1) reducesTo_S16384x1_S16384_d1 h_S_))
    (Host.gather gather_S100000x128_S16384x1_S16384x128_1_0_n_n_0_1_1128 a4 (wrapped a0)) (broadcastInDim S16384x128 ![] bcast_S_S16384x128
    (constant S_ .f32 0x7FC00000#32))

/-- The reference's result, of its arguments. -/
def result (a0 : S16384.Idx → BitVec 32) (a1 : FVec Ideal S1536 .f32) (a2 : FVec Ideal S128x1536 .f32) (a3 : FVec Ideal S128 .f32)
    (a4 : FVec Ideal S100000x128 .f32) (a5 : FVec Ideal S10x256 .f32) (a6 : FVec Ideal S10 .f32) (a7 : FVec Ideal S10x10 .f32)
    (a8 : FVec Ideal S10 .f32) : FVec Ideal S16384x10 .f32 :=
  addf (Host.dotGeneral dot_S16384x10_S10x10_S16384x10_1_0_0_1_n_n none (maximumf (addf (Host.dotGeneral
    dot_S16384x256_S256x10_S16384x10_1_0_0_1_n_n none (concatenate S16384x256 1 [⟨S16384x128, (taken a0 a4)⟩, ⟨S16384x128, (broadcastInDim
    S16384x128 ![0, 1] bcast_S1x128_S16384x128_0_1 (broadcastInDim S1x128 ![1] bcast_S128_S1x128_1 (addf (Host.dotGeneral
    dot_S1536_S1536x128_S128_0_0_n_1_n_n none a1 (transpose S1536x128 [1, 0] a2 transposes_S128x1536_S1536x128_1_0)) a3)))⟩]
    concatenates_S16384x128_S16384x128_S16384x256_d1) (transpose S256x10 [1, 0] a5 transposes_S10x256_S256x10_1_0)) (broadcastInDim
    S16384x10 ![0, 1] bcast_S1x10_S16384x10_0_1 (broadcastInDim S1x10 ![1] bcast_S10_S1x10_1 a6))) (broadcastInDim S16384x10 ![]
    bcast_S_S16384x10 (constant S_ .f32 0x00000000#32))) (transpose S10x10 [1, 0] a7 transposes_S10x10_S10x10_1_0)) (broadcastInDim
    S16384x10 ![0, 1] bcast_S1x10_S16384x10_0_1 (broadcastInDim S1x10 ![1] bcast_S10_S1x10_1 a8))

/-- An index in range is its own start index. -/
theorem wrapped_apply (a0 : S16384.Idx → BitVec 32) (h : ∀ x, (a0 x).toNat < 100000) (r : Fin 16384) (z : Fin 1) :
    wrapped a0 (ix2 r z) = a0 (ix1 r) := by
  have hb : wrapped a0 (ix2 r z) = Scalar.select (IntOp.cmpi .slt (a0 (ix1 r)) 0#32) (IntOp.addi (a0 (ix1 r)) 100000#32) (a0 (ix1 r)) := by
    pointwise [wrapped]
  have h' := h (ix1 r)
  have hn : IntOp.cmpi .slt (a0 (ix1 r)) 0#32 = 0#1 := by
    simp only [IntOp.cmpi, BitVec.slt_eq_decide, BitVec.toInt_eq_toNat_cond, BitVec.toNat_ofNat, Nat.reducePow, Nat.reduceMod]
    rw [decide_eq_false (by omega)]
    rfl
  rw [hb, hn]
  rfl

/-- For indices in range the lookup is the table's rows. -/
theorem taken_apply (a0 : S16384.Idx → BitVec 32) (a4 : FVec Ideal S100000x128 .f32) (h : ∀ x, (a0 x).toNat < 100000)
    (r : Fin 16384) (k : Fin 128) : taken a0 a4 (ix2 r k) = a4 (ix2 (rowOf (a0 (ix1 r))) k) := by
  have hmask : ∀ y : S16384x1.Idx, andi (cmpi .sge (wrapped a0) (broadcastInDim S16384x1 ![] bcast_S_S16384x1 (constantI S_ 32 0#32)))
      (cmpi .sle (wrapped a0) (broadcastInDim S16384x1 ![0, 1] bcast_S1x1_S16384x1_0_1 (broadcastInDim S1x1 ![1] bcast_S1_S1x1_1
        (constantI S1 32 99999#32)))) y = 1#1 := fun y => by
    obtain ⟨p, q, rfl⟩ : ∃ (p : Fin 16384) (q : Fin 1), y = ix2 p q := ⟨_, _, eq_ix2 y⟩
    show IntOp.andi (IntOp.cmpi .sge (wrapped a0 (ix2 p q)) 0#32) (IntOp.cmpi .sle (wrapped a0 (ix2 p q)) 99999#32) = 1#1
    rw [wrapped_apply a0 h]
    have h' := h (ix1 p)
    simp only [IntOp.cmpi, BitVec.sle_eq_decide, BitVec.toInt_eq_toNat_cond, BitVec.toNat_ofNat, Nat.reducePow, Nat.reduceMod]
    rw [decide_eq_true (by omega), decide_eq_true (by omega)]
    rfl
  have hone := Host.reduce_andi_one _ (constantI S_ 1 1#1) reducesTo_S16384x1_S16384_d1 h_S_ (ix1 r) rfl hmask
  have hrow : wrapped a0 (ix2 r (0 : Fin 1)) = BitVec.ofNat 32 (rowOf (a0 (ix1 r))).val := by
    rw [wrapped_apply a0 h]
    show a0 (ix1 r) = BitVec.ofNat 32 ((a0 (ix1 r)).toNat % 100000)
    rw [Nat.mod_eq_of_lt (h _), BitVec.ofNat_toNat, BitVec.setWidth_eq]
  have hg := Routing.gather_row gather_S100000x128_S16384x1_S16384x128_1_0_n_n_0_1_1128 rfl rfl rfl rfl rfl a4 (wrapped a0) r k
    (rowOf (a0 (ix1 r))) (by rw [← ix2_eq_valueIdx]; exact hrow) (by norm_num)
  rw [← ix2_eq_valueIdx, ← ix2_eq_valueIdx] at hg
  have hb : ∀ (p : S16384.Idx → BitVec 1) (g f : FVec Ideal S16384x128 .f32),
      select (broadcastInDim S16384x128 ![0] bcast_S16384_S16384x128_0 p) g f (ix2 r k) = Scalar.select (p (ix1 r)) (g (ix2 r k)) (f (ix2 r k)) :=
    fun p g f => by pointwise
  unfold taken
  rw [hb, hone, hg]
  rfl

/-- For indices in range the reference's result is the plain sums. -/
theorem ref_value (a0 : S16384.Idx → BitVec 32) (a1 : FVec Ideal S1536 .f32) (a2 : FVec Ideal S128x1536 .f32) (a3 : FVec Ideal S128 .f32)
    (a4 : FVec Ideal S100000x128 .f32) (a5 : FVec Ideal S10x256 .f32) (a6 : FVec Ideal S10 .f32) (a7 : FVec Ideal S10x10 .f32)
    (a8 : FVec Ideal S10 .f32)
    (h : ∀ x, (a0 x).toNat < 100000) (r : Fin 16384) (l : Fin 10) :
    result a0 a1 a2 a3 a4 a5 a6 a7 a8 (ix2 r l) = resultAt a0 a1 a2 a3 a4 a5 a6 a7 a8 r l := by
  pointwise [result]
  simp only [taken_apply a0 a4 h, add_assoc]
  rfl

end Cert.Proof.Ref

end
-- ==== Proof.Value.lean ====
/-
  The value: over extended reals, with every index in range, the kernel's run and the reference's run end with one
  result, on arguments that agree.
-/
module

public import proofs.«01_k».proof.Proof.Frames
public import proofs.«01_k».proof.Proof.RefValue

@[expose] public section

noncomputable section

namespace Cert.Proof

open Cert.KernelIdeal Cert.KernelIdeal.Gen
open Idealize.ShloMosaic
open Idealize.SL.Sem

/-- For indices in range the reference's result, of a device's arguments, is the result buffer's last contents there. -/
theorem sums_eq (m : (ℓ : Loc nD τ sig) → Buf (Elt Ideal) ℓ) (d : Dev nD)
    (h : ∀ x : S16384.Idx, (show BitVec 32 from m (d, dr main_arg0) x).toNat < 100000) :
    Ref.result (m (d, dr main_arg0)) (m (d, dr main_arg1)) (m (d, dr main_arg2)) (m (d, dr main_arg3)) (m (d, dr main_arg4))
        (m (d, dr main_arg5)) (m (d, dr main_arg6)) (m (d, dr main_arg7)) (m (d, dr main_arg8))
      = (V5 m d (dr main_v14) : S16384x10.Idx → EReal) := by
  funext x
  obtain ⟨r, l, rfl⟩ : ∃ (r : Fin 16384) (l : Fin 10), x = ix2 r l := ⟨_, _, eq_ix2 x⟩
  exact (Ref.ref_value _ _ _ _ _ _ _ _ _ h r l).trans (kernel_value m d r l).symm

/-- The kernel's result is the reference's, on arguments that agree. -/
theorem value : Cert.algebraic_KernelIdeal_ReferenceIdeal := fun m g m' g' hpre hag => by
  have hid : ∀ (d : Dev nD) (x : S16384.Idx), (show BitVec 32 from m (d, dr main_arg0) x).toNat < 100000 :=
    fun d x => ids_lt _ _ _ _ _ _ _ _ _ (hpre d) x
  refine ⟨fun c => V5 m c (dr main_v14),
    (θ_run Cert.KernelIdeal.defs _ _).mono (fun r h c => ⟨h.1 c (dr main_v14) (by decide), same_of_QC m r h c⟩) (run_main m g (inRange_of m hid)),
    (θ_run Cert.ReferenceIdeal.defs _ _).mono (fun r h c => ⟨(h c).1.trans ?_, (h c).2⟩) (Cert.ReferenceIdeal.Value.run (F := Ideal) m' g')⟩
  obtain ⟨e0, e1, e2, e3, e4, e5, e6, e7, e8⟩ := hag c
  rw [e0, e1, e2, e3, e4, e5, e6, e7, e8]
  exact sums_eq m c (hid c)

end Cert.Proof

end
-- ==== Proof.lean ====
/-
  The claims, together: the frame of the kernel over bits, its frame over extended reals, the frame of the reference, the
  idealized kernel being the kernel's own idealization, and the kernel's result being the reference's over extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_range
public import proofs.«01_k».proof.Proof.Frames
public import proofs.«01_k».proof.Proof.Value
public import Idealize.ShloMosaic.Adequacy
public import Idealize.ShloMosaic.Init

@[expose] public section

noncomputable section

namespace Cert.Proof

/-- Every claim stated of the kernel and the reference holds. -/
theorem claim : Cert.Claim := ⟨Cert.Kernel.Gen.facts, Cert.KernelIdeal.Gen.facts, Cert.ReferenceIdeal.Gen.facts, Cert.Pre_in_range.Gen.facts,
  frame_kernel, frame_kernelIdeal, frame_reference, trivial, value⟩

end Cert.Proof

end
